-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x2048 : Shape := ⟨2, ![16384, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S16384x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S16384x2048 : Shape := ⟨2, ![16384, 2048]⟩
abbrev S2048 : Shape := ⟨1, ![2048]⟩
abbrev S4x2048 : Shape := ⟨2, ![4, 2048]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 9
  | _ => 0

abbrev bufTy : (tb : Table) → Fin (nBuf tb) → BufTy
  | .hbm, ⟨0, _⟩ => ⟨S16384x2048, .f32⟩
  | .hbm, ⟨1, _⟩ => ⟨S2048, .i32⟩
  | .hbm, ⟨2, _⟩ => ⟨S16384x2048, .f32⟩
  | .local .scVector .vmem, ⟨0, _⟩ => ⟨S2048, .i32⟩
  | .local .scVector .vmem, ⟨1, _⟩ => ⟨S4x2048, .f32⟩
  | .local .scVector .vmem, ⟨2, _⟩ => ⟨S4x2048, .f32⟩
  | .local .scVector .vmem, ⟨3, _⟩ => ⟨S4x2048, .f32⟩
  | .local .scVector .vmem, ⟨4, _⟩ => ⟨S4x2048, .f32⟩
  | .local .scVector .vmem, ⟨5, _⟩ => ⟨S4x2048, .f32⟩
  | .local .scVector .vmem, ⟨6, _⟩ => ⟨S4x2048, .f32⟩
  | .local .scVector .vmem, ⟨7, _⟩ => ⟨S4x2048, .f32⟩
  | .local .scVector .vmem, ⟨8, _⟩ => ⟨S4x2048, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off1_at (r : Fin 7) : BitVec 32 :=
  if r.val < 3 then
    if r.val < 1 then
      0#32
    else
      if r.val < 2 then
        4#32
      else
        8#32
  else
    if r.val < 5 then
      if r.val < 4 then
        496#32
      else
        500#32
    else
      if r.val < 6 then
        504#32
      else
        508#32
@[reducible] def k0_t1_loop : Scf.Loop 32 :=
  let c0_i32_7 : BitVec 32 := 0#32
  let c32_i32 : BitVec 32 := 32#32
  let v12 : BitVec 32 := Scalar.addi c0_i32_7 c32_i32
  let c1_i32 : BitVec 32 := 1#32
  ⟨c0_i32_7, v12, c1_i32⟩
def k0_cond1 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_17 : BitVec 32 := 4#32
  let v25 : BitVec 32 := Scalar.muli arg22 c4_i32_17
  let c0_i32_18 : BitVec 32 := 0#32
  let v26 : BitVec 32 := Scalar.addi v25 c0_i32_18
  let c4_i32_19 : BitVec 32 := 4#32
  let v27 : BitVec 32 := Scalar.addi v26 c4_i32_19
  let c1_i32_20 : BitVec 32 := 1#32
  let v28 : BitVec 32 := Scalar.subi v27 c1_i32_20
  let c128_i32 : BitVec 32 := 128#32
  let v29 : BitVec 1 := Scalar.cmpi .slt v28 c128_i32
  let v30 : BitVec 32 := Scalar.extui v29
  let c0_i32_21 : BitVec 32 := 0#32
  let v31 : BitVec 1 := Scalar.cmpi .ne v30 c0_i32_21
  v31

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_17 : BitVec 32 := 4#32
  let v25 : BitVec 32 := Scalar.muli arg22 c4_i32_17
  let c0_i32_18 : BitVec 32 := 0#32
  let v26 : BitVec 32 := Scalar.addi v25 c0_i32_18
  let c4_i32_87 : BitVec 32 := 4#32
  let v101 : BitVec 32 := Scalar.addi v26 c4_i32_87
  let c1_i32_88 : BitVec 32 := 1#32
  let v102 : BitVec 32 := Scalar.subi v101 c1_i32_88
  let c4_i32_89 : BitVec 32 := 4#32
  let v103 : BitVec 32 := Scalar.muli v102 c4_i32_89
  let v104 : BitVec 32 := Scalar.addi v2 v103
  let c0_i32_90 : BitVec 32 := 0#32
  ![v104.toNat, 0]
def k0_off3 (i : grid0.Coords) (k0_t1 : Fin k0_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_17 : BitVec 32 := 4#32
  let v25 : BitVec 32 := Scalar.muli arg22 c4_i32_17
  let v26 : BitVec 32 := Scalar.addi v25 c0_i32_18
  let c4_i32_22 : BitVec 32 := 4#32
  let v32 : BitVec 32 := Scalar.muli v26 c4_i32_22
  let v33 : BitVec 32 := Scalar.addi v2 v32
  let c0_i32_23 : BitVec 32 := 0#32
  ![v33.toNat, 0]
def k0_cond2 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_17 : BitVec 32 := 4#32
  let v25 : BitVec 32 := Scalar.muli arg22 c4_i32_17
  let c0_i32_18 : BitVec 32 := 0#32
  let v26 : BitVec 32 := Scalar.addi v25 c0_i32_18
  let c4_i32_25 : BitVec 32 := 4#32
  let v36 : BitVec 1 := Scalar.cmpi .sge v26 c4_i32_25
  let v37 : BitVec 32 := Scalar.extui v36
  let c0_i32_26 : BitVec 32 := 0#32
  let v38 : BitVec 1 := Scalar.cmpi .ne v37 c0_i32_26
  v38

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_17 : BitVec 32 := 4#32
  let v25 : BitVec 32 := Scalar.muli arg22 c4_i32_17
  let c0_i32_18 : BitVec 32 := 0#32
  let v26 : BitVec 32 := Scalar.addi v25 c0_i32_18
  let c4_i32_87 : BitVec 32 := 4#32
  let v101 : BitVec 32 := Scalar.muli v26 c4_i32_87
  let v102 : BitVec 32 := Scalar.addi v2 v101
  let c0_i32_88 : BitVec 32 := 0#32
  ![v102.toNat, 0]
@[reducible] def k0_t2_loop : Scf.Loop 32 :=
  let c0_i32_27 : BitVec 32 := 0#32
  let c128_i32_28 : BitVec 32 := 128#32
  let v39 : BitVec 32 := Scalar.addi c0_i32_27 c128_i32_28
  let c1_i32_29 : BitVec 32 := 1#32
  ⟨c0_i32_27, v39, c1_i32_29⟩
def k0_off5 (k0_t2 : Fin k0_t2_loop.trips) : Fin 1 → Nat :=
  let c0_i32_88 : BitVec 32 := 0#32
  let c0_i32_27 : BitVec 32 := 0#32
  let c1_i32_29 : BitVec 32 := 1#32
  let arg23 : BitVec 32 := Scf.iv c0_i32_27 c1_i32_29 k0_t2
  let c1_i32_87 : BitVec 32 := 1#32
  let v101 : BitVec 32 := Scalar.muli arg23 c1_i32_87
  let v102 : BitVec 32 := Scalar.addi c0_i32_88 v101
  let c16_i32 : BitVec 32 := 16#32
  let v103 : BitVec 32 := Scalar.muli v102 c16_i32
  let v104 : Index := Scalar.indexCast v103
  ![v104.toNat]

def k0_chk1 (v105 : IVec S16 32) (v107 : IVec S16 32) : Prop :=
  (∀ a x, ((![v107, v105] : Fin 2 → IVec S16 32) a x).toNat < S4x2048.size a)
theorem k0_idx1_inb : ∀ (v105 : IVec S16 32) (v107 : IVec S16 32) (k0_hw1 : k0_chk1 v105 v107), ∀ a x, ((![v107, v105] : Fin 2 → IVec S16 32) a x).toNat < S4x2048.size a := fun v105 v107 k0_hw1 => k0_hw1

def k0_chk2 (v105 : IVec S16 32) (v109 : IVec S16 32) : Prop :=
  (∀ a x, ((![v109, v105] : Fin 2 → IVec S16 32) a x).toNat < S4x2048.size a)
theorem k0_idx2_inb : ∀ (v105 : IVec S16 32) (v109 : IVec S16 32) (k0_hw2 : k0_chk2 v105 v109), ∀ a x, ((![v109, v105] : Fin 2 → IVec S16 32) a x).toNat < S4x2048.size a := fun v105 v109 k0_hw2 => k0_hw2

def k0_chk3 (v105 : IVec S16 32) (v111 : IVec S16 32) : Prop :=
  (∀ a x, ((![v111, v105] : Fin 2 → IVec S16 32) a x).toNat < S4x2048.size a)
theorem k0_idx3_inb : ∀ (v105 : IVec S16 32) (v111 : IVec S16 32) (k0_hw3 : k0_chk3 v105 v111), ∀ a x, ((![v111, v105] : Fin 2 → IVec S16 32) a x).toNat < S4x2048.size a := fun v105 v111 k0_hw3 => k0_hw3

def k0_chk4 (v105 : IVec S16 32) (v113 : IVec S16 32) : Prop :=
  (∀ a x, ((![v113, v105] : Fin 2 → IVec S16 32) a x).toNat < S4x2048.size a)
theorem k0_idx4_inb : ∀ (v105 : IVec S16 32) (v113 : IVec S16 32) (k0_hw4 : k0_chk4 v105 v113), ∀ a x, ((![v113, v105] : Fin 2 → IVec S16 32) a x).toNat < S4x2048.size a := fun v105 v113 k0_hw4 => k0_hw4
def k0_off6 (k0_t2 : Fin k0_t2_loop.trips) : Fin 2 → Nat :=
  let c0_i32_94 : BitVec 32 := 0#32
  let v115 : Index := Scalar.indexCast c0_i32_94
  let c0_i32_88 : BitVec 32 := 0#32
  let c0_i32_27 : BitVec 32 := 0#32
  let c1_i32_29 : BitVec 32 := 1#32
  let arg23 : BitVec 32 := Scf.iv c0_i32_27 c1_i32_29 k0_t2
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v116 : Index := Scalar.indexCast v106
  ![0, v116.toNat]
def k0_off7 (k0_t2 : Fin k0_t2_loop.trips) : Fin 2 → Nat :=
  let c1_i32_95 : BitVec 32 := 1#32
  let v118 : Index := Scalar.indexCast c1_i32_95
  let c0_i32_88 : BitVec 32 := 0#32
  let c0_i32_27 : BitVec 32 := 0#32
  let c1_i32_29 : BitVec 32 := 1#32
  let arg23 : BitVec 32 := Scf.iv c0_i32_27 c1_i32_29 k0_t2
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v119 : Index := Scalar.indexCast v106
  ![1, v119.toNat]
def k0_off8 (k0_t2 : Fin k0_t2_loop.trips) : Fin 2 → Nat :=
  let c2_i32_96 : BitVec 32 := 2#32
  let v121 : Index := Scalar.indexCast c2_i32_96
  let c0_i32_88 : BitVec 32 := 0#32
  let c0_i32_27 : BitVec 32 := 0#32
  let c1_i32_29 : BitVec 32 := 1#32
  let arg23 : BitVec 32 := Scf.iv c0_i32_27 c1_i32_29 k0_t2
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v122 : Index := Scalar.indexCast v106
  ![2, v122.toNat]
def k0_off9 (k0_t2 : Fin k0_t2_loop.trips) : Fin 2 → Nat :=
  let c3_i32_97 : BitVec 32 := 3#32
  let v124 : Index := Scalar.indexCast c3_i32_97
  let c0_i32_88 : BitVec 32 := 0#32
  let c0_i32_27 : BitVec 32 := 0#32
  let c1_i32_29 : BitVec 32 := 1#32
  let arg23 : BitVec 32 := Scf.iv c0_i32_27 c1_i32_29 k0_t2
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v125 : Index := Scalar.indexCast v106
  ![3, v125.toNat]
def k0_cond3 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_34 : BitVec 32 := 4#32
  let v44 : BitVec 32 := Scalar.muli arg22 c4_i32_34
  let c1_i32_35 : BitVec 32 := 1#32
  let v45 : BitVec 32 := Scalar.addi v44 c1_i32_35
  let c4_i32_36 : BitVec 32 := 4#32
  let v46 : BitVec 32 := Scalar.addi v45 c4_i32_36
  let c1_i32_37 : BitVec 32 := 1#32
  let v47 : BitVec 32 := Scalar.subi v46 c1_i32_37
  let c128_i32_38 : BitVec 32 := 128#32
  let v48 : BitVec 1 := Scalar.cmpi .slt v47 c128_i32_38
  let v49 : BitVec 32 := Scalar.extui v48
  let c0_i32_39 : BitVec 32 := 0#32
  let v50 : BitVec 1 := Scalar.cmpi .ne v49 c0_i32_39
  v50

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_34 : BitVec 32 := 4#32
  let v44 : BitVec 32 := Scalar.muli arg22 c4_i32_34
  let c1_i32_35 : BitVec 32 := 1#32
  let v45 : BitVec 32 := Scalar.addi v44 c1_i32_35
  let c4_i32_87 : BitVec 32 := 4#32
  let v101 : BitVec 32 := Scalar.addi v45 c4_i32_87
  let c1_i32_88 : BitVec 32 := 1#32
  let v102 : BitVec 32 := Scalar.subi v101 c1_i32_88
  let c4_i32_89 : BitVec 32 := 4#32
  let v103 : BitVec 32 := Scalar.muli v102 c4_i32_89
  let v104 : BitVec 32 := Scalar.addi v2 v103
  let c0_i32_90 : BitVec 32 := 0#32
  ![v104.toNat, 0]
def k0_cond4 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_34 : BitVec 32 := 4#32
  let v44 : BitVec 32 := Scalar.muli arg22 c4_i32_34
  let c1_i32_35 : BitVec 32 := 1#32
  let v45 : BitVec 32 := Scalar.addi v44 c1_i32_35
  let c4_i32_43 : BitVec 32 := 4#32
  let v55 : BitVec 1 := Scalar.cmpi .sge v45 c4_i32_43
  let v56 : BitVec 32 := Scalar.extui v55
  let c0_i32_44 : BitVec 32 := 0#32
  let v57 : BitVec 1 := Scalar.cmpi .ne v56 c0_i32_44
  v57

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_34 : BitVec 32 := 4#32
  let v44 : BitVec 32 := Scalar.muli arg22 c4_i32_34
  let c1_i32_35 : BitVec 32 := 1#32
  let v45 : BitVec 32 := Scalar.addi v44 c1_i32_35
  let c4_i32_87 : BitVec 32 := 4#32
  let v101 : BitVec 32 := Scalar.muli v45 c4_i32_87
  let v102 : BitVec 32 := Scalar.addi v2 v101
  let c0_i32_88 : BitVec 32 := 0#32
  ![v102.toNat, 0]
@[reducible] def k0_t3_loop : Scf.Loop 32 :=
  let c0_i32_45 : BitVec 32 := 0#32
  let c128_i32_46 : BitVec 32 := 128#32
  let v58 : BitVec 32 := Scalar.addi c0_i32_45 c128_i32_46
  let c1_i32_47 : BitVec 32 := 1#32
  ⟨c0_i32_45, v58, c1_i32_47⟩
def k0_off12 (k0_t3 : Fin k0_t3_loop.trips) : Fin 1 → Nat :=
  let c0_i32_88 : BitVec 32 := 0#32
  let c0_i32_45 : BitVec 32 := 0#32
  let c1_i32_47 : BitVec 32 := 1#32
  let arg23 : BitVec 32 := Scf.iv c0_i32_45 c1_i32_47 k0_t3
  let c1_i32_87 : BitVec 32 := 1#32
  let v101 : BitVec 32 := Scalar.muli arg23 c1_i32_87
  let v102 : BitVec 32 := Scalar.addi c0_i32_88 v101
  let c16_i32 : BitVec 32 := 16#32
  let v103 : BitVec 32 := Scalar.muli v102 c16_i32
  let v104 : Index := Scalar.indexCast v103
  ![v104.toNat]

def k0_chk5 (v105 : IVec S16 32) (v107 : IVec S16 32) : Prop :=
  (∀ a x, ((![v107, v105] : Fin 2 → IVec S16 32) a x).toNat < S4x2048.size a)
theorem k0_idx5_inb : ∀ (v105 : IVec S16 32) (v107 : IVec S16 32) (k0_hw5 : k0_chk5 v105 v107), ∀ a x, ((![v107, v105] : Fin 2 → IVec S16 32) a x).toNat < S4x2048.size a := fun v105 v107 k0_hw5 => k0_hw5

def k0_chk6 (v105 : IVec S16 32) (v109 : IVec S16 32) : Prop :=
  (∀ a x, ((![v109, v105] : Fin 2 → IVec S16 32) a x).toNat < S4x2048.size a)
theorem k0_idx6_inb : ∀ (v105 : IVec S16 32) (v109 : IVec S16 32) (k0_hw6 : k0_chk6 v105 v109), ∀ a x, ((![v109, v105] : Fin 2 → IVec S16 32) a x).toNat < S4x2048.size a := fun v105 v109 k0_hw6 => k0_hw6

def k0_chk7 (v105 : IVec S16 32) (v111 : IVec S16 32) : Prop :=
  (∀ a x, ((![v111, v105] : Fin 2 → IVec S16 32) a x).toNat < S4x2048.size a)
theorem k0_idx7_inb : ∀ (v105 : IVec S16 32) (v111 : IVec S16 32) (k0_hw7 : k0_chk7 v105 v111), ∀ a x, ((![v111, v105] : Fin 2 → IVec S16 32) a x).toNat < S4x2048.size a := fun v105 v111 k0_hw7 => k0_hw7

def k0_chk8 (v105 : IVec S16 32) (v113 : IVec S16 32) : Prop :=
  (∀ a x, ((![v113, v105] : Fin 2 → IVec S16 32) a x).toNat < S4x2048.size a)
theorem k0_idx8_inb : ∀ (v105 : IVec S16 32) (v113 : IVec S16 32) (k0_hw8 : k0_chk8 v105 v113), ∀ a x, ((![v113, v105] : Fin 2 → IVec S16 32) a x).toNat < S4x2048.size a := fun v105 v113 k0_hw8 => k0_hw8
def k0_off13 (k0_t3 : Fin k0_t3_loop.trips) : Fin 2 → Nat :=
  let c0_i32_94 : BitVec 32 := 0#32
  let v115 : Index := Scalar.indexCast c0_i32_94
  let c0_i32_88 : BitVec 32 := 0#32
  let c0_i32_45 : BitVec 32 := 0#32
  let c1_i32_47 : BitVec 32 := 1#32
  let arg23 : BitVec 32 := Scf.iv c0_i32_45 c1_i32_47 k0_t3
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v116 : Index := Scalar.indexCast v106
  ![0, v116.toNat]
def k0_off14 (k0_t3 : Fin k0_t3_loop.trips) : Fin 2 → Nat :=
  let c1_i32_95 : BitVec 32 := 1#32
  let v118 : Index := Scalar.indexCast c1_i32_95
  let c0_i32_88 : BitVec 32 := 0#32
  let c0_i32_45 : BitVec 32 := 0#32
  let c1_i32_47 : BitVec 32 := 1#32
  let arg23 : BitVec 32 := Scf.iv c0_i32_45 c1_i32_47 k0_t3
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v119 : Index := Scalar.indexCast v106
  ![1, v119.toNat]
def k0_off15 (k0_t3 : Fin k0_t3_loop.trips) : Fin 2 → Nat :=
  let c2_i32_96 : BitVec 32 := 2#32
  let v121 : Index := Scalar.indexCast c2_i32_96
  let c0_i32_88 : BitVec 32 := 0#32
  let c0_i32_45 : BitVec 32 := 0#32
  let c1_i32_47 : BitVec 32 := 1#32
  let arg23 : BitVec 32 := Scf.iv c0_i32_45 c1_i32_47 k0_t3
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v122 : Index := Scalar.indexCast v106
  ![2, v122.toNat]
def k0_off16 (k0_t3 : Fin k0_t3_loop.trips) : Fin 2 → Nat :=
  let c3_i32_97 : BitVec 32 := 3#32
  let v124 : Index := Scalar.indexCast c3_i32_97
  let c0_i32_88 : BitVec 32 := 0#32
  let c0_i32_45 : BitVec 32 := 0#32
  let c1_i32_47 : BitVec 32 := 1#32
  let arg23 : BitVec 32 := Scf.iv c0_i32_45 c1_i32_47 k0_t3
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v125 : Index := Scalar.indexCast v106
  ![3, v125.toNat]
def k0_cond5 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_52 : BitVec 32 := 4#32
  let v63 : BitVec 32 := Scalar.muli arg22 c4_i32_52
  let c2_i32_53 : BitVec 32 := 2#32
  let v64 : BitVec 32 := Scalar.addi v63 c2_i32_53
  let c4_i32_54 : BitVec 32 := 4#32
  let v65 : BitVec 32 := Scalar.addi v64 c4_i32_54
  let c1_i32_55 : BitVec 32 := 1#32
  let v66 : BitVec 32 := Scalar.subi v65 c1_i32_55
  let c128_i32_56 : BitVec 32 := 128#32
  let v67 : BitVec 1 := Scalar.cmpi .slt v66 c128_i32_56
  let v68 : BitVec 32 := Scalar.extui v67
  let c0_i32_57 : BitVec 32 := 0#32
  let v69 : BitVec 1 := Scalar.cmpi .ne v68 c0_i32_57
  v69

def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_52 : BitVec 32 := 4#32
  let v63 : BitVec 32 := Scalar.muli arg22 c4_i32_52
  let c2_i32_53 : BitVec 32 := 2#32
  let v64 : BitVec 32 := Scalar.addi v63 c2_i32_53
  let c4_i32_87 : BitVec 32 := 4#32
  let v101 : BitVec 32 := Scalar.addi v64 c4_i32_87
  let c1_i32_88 : BitVec 32 := 1#32
  let v102 : BitVec 32 := Scalar.subi v101 c1_i32_88
  let c4_i32_89 : BitVec 32 := 4#32
  let v103 : BitVec 32 := Scalar.muli v102 c4_i32_89
  let v104 : BitVec 32 := Scalar.addi v2 v103
  let c0_i32_90 : BitVec 32 := 0#32
  ![v104.toNat, 0]
def k0_cond6 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_52 : BitVec 32 := 4#32
  let v63 : BitVec 32 := Scalar.muli arg22 c4_i32_52
  let c2_i32_53 : BitVec 32 := 2#32
  let v64 : BitVec 32 := Scalar.addi v63 c2_i32_53
  let c4_i32_61 : BitVec 32 := 4#32
  let v74 : BitVec 1 := Scalar.cmpi .sge v64 c4_i32_61
  let v75 : BitVec 32 := Scalar.extui v74
  let c0_i32_62 : BitVec 32 := 0#32
  let v76 : BitVec 1 := Scalar.cmpi .ne v75 c0_i32_62
  v76

def k0_off18 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_52 : BitVec 32 := 4#32
  let v63 : BitVec 32 := Scalar.muli arg22 c4_i32_52
  let c2_i32_53 : BitVec 32 := 2#32
  let v64 : BitVec 32 := Scalar.addi v63 c2_i32_53
  let c4_i32_87 : BitVec 32 := 4#32
  let v101 : BitVec 32 := Scalar.muli v64 c4_i32_87
  let v102 : BitVec 32 := Scalar.addi v2 v101
  let c0_i32_88 : BitVec 32 := 0#32
  ![v102.toNat, 0]
@[reducible] def k0_t4_loop : Scf.Loop 32 :=
  let c0_i32_63 : BitVec 32 := 0#32
  let c128_i32_64 : BitVec 32 := 128#32
  let v77 : BitVec 32 := Scalar.addi c0_i32_63 c128_i32_64
  let c1_i32_65 : BitVec 32 := 1#32
  ⟨c0_i32_63, v77, c1_i32_65⟩
def k0_off19 (k0_t4 : Fin k0_t4_loop.trips) : Fin 1 → Nat :=
  let c0_i32_88 : BitVec 32 := 0#32
  let c0_i32_63 : BitVec 32 := 0#32
  let c1_i32_65 : BitVec 32 := 1#32
  let arg23 : BitVec 32 := Scf.iv c0_i32_63 c1_i32_65 k0_t4
  let c1_i32_87 : BitVec 32 := 1#32
  let v101 : BitVec 32 := Scalar.muli arg23 c1_i32_87
  let v102 : BitVec 32 := Scalar.addi c0_i32_88 v101
  let c16_i32 : BitVec 32 := 16#32
  let v103 : BitVec 32 := Scalar.muli v102 c16_i32
  let v104 : Index := Scalar.indexCast v103
  ![v104.toNat]

def k0_chk9 (v105 : IVec S16 32) (v107 : IVec S16 32) : Prop :=
  (∀ a x, ((![v107, v105] : Fin 2 → IVec S16 32) a x).toNat < S4x2048.size a)
theorem k0_idx9_inb : ∀ (v105 : IVec S16 32) (v107 : IVec S16 32) (k0_hw9 : k0_chk9 v105 v107), ∀ a x, ((![v107, v105] : Fin 2 → IVec S16 32) a x).toNat < S4x2048.size a := fun v105 v107 k0_hw9 => k0_hw9

def k0_chk10 (v105 : IVec S16 32) (v109 : IVec S16 32) : Prop :=
  (∀ a x, ((![v109, v105] : Fin 2 → IVec S16 32) a x).toNat < S4x2048.size a)
theorem k0_idx10_inb : ∀ (v105 : IVec S16 32) (v109 : IVec S16 32) (k0_hw10 : k0_chk10 v105 v109), ∀ a x, ((![v109, v105] : Fin 2 → IVec S16 32) a x).toNat < S4x2048.size a := fun v105 v109 k0_hw10 => k0_hw10

def k0_chk11 (v105 : IVec S16 32) (v111 : IVec S16 32) : Prop :=
  (∀ a x, ((![v111, v105] : Fin 2 → IVec S16 32) a x).toNat < S4x2048.size a)
theorem k0_idx11_inb : ∀ (v105 : IVec S16 32) (v111 : IVec S16 32) (k0_hw11 : k0_chk11 v105 v111), ∀ a x, ((![v111, v105] : Fin 2 → IVec S16 32) a x).toNat < S4x2048.size a := fun v105 v111 k0_hw11 => k0_hw11

def k0_chk12 (v105 : IVec S16 32) (v113 : IVec S16 32) : Prop :=
  (∀ a x, ((![v113, v105] : Fin 2 → IVec S16 32) a x).toNat < S4x2048.size a)
theorem k0_idx12_inb : ∀ (v105 : IVec S16 32) (v113 : IVec S16 32) (k0_hw12 : k0_chk12 v105 v113), ∀ a x, ((![v113, v105] : Fin 2 → IVec S16 32) a x).toNat < S4x2048.size a := fun v105 v113 k0_hw12 => k0_hw12
def k0_off20 (k0_t4 : Fin k0_t4_loop.trips) : Fin 2 → Nat :=
  let c0_i32_94 : BitVec 32 := 0#32
  let v115 : Index := Scalar.indexCast c0_i32_94
  let c0_i32_88 : BitVec 32 := 0#32
  let c0_i32_63 : BitVec 32 := 0#32
  let c1_i32_65 : BitVec 32 := 1#32
  let arg23 : BitVec 32 := Scf.iv c0_i32_63 c1_i32_65 k0_t4
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v116 : Index := Scalar.indexCast v106
  ![0, v116.toNat]
def k0_off21 (k0_t4 : Fin k0_t4_loop.trips) : Fin 2 → Nat :=
  let c1_i32_95 : BitVec 32 := 1#32
  let v118 : Index := Scalar.indexCast c1_i32_95
  let c0_i32_88 : BitVec 32 := 0#32
  let c0_i32_63 : BitVec 32 := 0#32
  let c1_i32_65 : BitVec 32 := 1#32
  let arg23 : BitVec 32 := Scf.iv c0_i32_63 c1_i32_65 k0_t4
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v119 : Index := Scalar.indexCast v106
  ![1, v119.toNat]
def k0_off22 (k0_t4 : Fin k0_t4_loop.trips) : Fin 2 → Nat :=
  let c2_i32_96 : BitVec 32 := 2#32
  let v121 : Index := Scalar.indexCast c2_i32_96
  let c0_i32_88 : BitVec 32 := 0#32
  let c0_i32_63 : BitVec 32 := 0#32
  let c1_i32_65 : BitVec 32 := 1#32
  let arg23 : BitVec 32 := Scf.iv c0_i32_63 c1_i32_65 k0_t4
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v122 : Index := Scalar.indexCast v106
  ![2, v122.toNat]
def k0_off23 (k0_t4 : Fin k0_t4_loop.trips) : Fin 2 → Nat :=
  let c3_i32_97 : BitVec 32 := 3#32
  let v124 : Index := Scalar.indexCast c3_i32_97
  let c0_i32_88 : BitVec 32 := 0#32
  let c0_i32_63 : BitVec 32 := 0#32
  let c1_i32_65 : BitVec 32 := 1#32
  let arg23 : BitVec 32 := Scf.iv c0_i32_63 c1_i32_65 k0_t4
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v125 : Index := Scalar.indexCast v106
  ![3, v125.toNat]
def k0_cond7 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_70 : BitVec 32 := 4#32
  let v82 : BitVec 32 := Scalar.muli arg22 c4_i32_70
  let c3_i32 : BitVec 32 := 3#32
  let v83 : BitVec 32 := Scalar.addi v82 c3_i32
  let c4_i32_71 : BitVec 32 := 4#32
  let v84 : BitVec 32 := Scalar.addi v83 c4_i32_71
  let c1_i32_72 : BitVec 32 := 1#32
  let v85 : BitVec 32 := Scalar.subi v84 c1_i32_72
  let c128_i32_73 : BitVec 32 := 128#32
  let v86 : BitVec 1 := Scalar.cmpi .slt v85 c128_i32_73
  let v87 : BitVec 32 := Scalar.extui v86
  let c0_i32_74 : BitVec 32 := 0#32
  let v88 : BitVec 1 := Scalar.cmpi .ne v87 c0_i32_74
  v88

def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_70 : BitVec 32 := 4#32
  let v82 : BitVec 32 := Scalar.muli arg22 c4_i32_70
  let c3_i32 : BitVec 32 := 3#32
  let v83 : BitVec 32 := Scalar.addi v82 c3_i32
  let c4_i32_87 : BitVec 32 := 4#32
  let v101 : BitVec 32 := Scalar.addi v83 c4_i32_87
  let c1_i32_88 : BitVec 32 := 1#32
  let v102 : BitVec 32 := Scalar.subi v101 c1_i32_88
  let c4_i32_89 : BitVec 32 := 4#32
  let v103 : BitVec 32 := Scalar.muli v102 c4_i32_89
  let v104 : BitVec 32 := Scalar.addi v2 v103
  let c0_i32_90 : BitVec 32 := 0#32
  ![v104.toNat, 0]
def k0_cond8 (k0_t1 : Fin k0_t1_loop.trips) : BitVec 1 :=
  let c0_i32_7 : BitVec 32 := 0#32
  let c1_i32 : BitVec 32 := 1#32
  let arg22 : BitVec 32 := Scf.iv c0_i32_7 c1_i32 k0_t1
  let c4_i32_70 : BitVec 32 := 4#32
  let v82 : BitVec 32 := Scalar.muli arg22 c4_i32_70
  let c3_i32 : BitVec 32 := 3#32
  let v83 : BitVec 32 := Scalar.addi v82 c3_i32
  let c4_i32_78 : BitVec 32 := 4#32
  let v93 : BitVec 1 := Scalar.cmpi .sge v83 c4_i32_78
  let v94 : BitVec 32 := Scalar.extui v93
  let c0_i32_79 : BitVec 32 := 0#32
  let v95 : BitVec 1 := Scalar.cmpi .ne v94 c0_i32_79
  v95

def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7 : BitVec 32 := 0#32
  let c1_i32 : BitVec 32 := 1#32
  let arg22 : BitVec 32 := Scf.iv c0_i32_7 c1_i32 k0_t1
  let c4_i32_70 : BitVec 32 := 4#32
  let v82 : BitVec 32 := Scalar.muli arg22 c4_i32_70
  let c3_i32 : BitVec 32 := 3#32
  let v83 : BitVec 32 := Scalar.addi v82 c3_i32
  let c4_i32_87 : BitVec 32 := 4#32
  let v101 : BitVec 32 := Scalar.muli v83 c4_i32_87
  let v102 : BitVec 32 := Scalar.addi v2 v101
  let c0_i32_88 : BitVec 32 := 0#32
  ![v102.toNat, 0]
@[reducible] def k0_t5_loop : Scf.Loop 32 :=
  let c0_i32_80 : BitVec 32 := 0#32
  let c128_i32_81 : BitVec 32 := 128#32
  let v96 : BitVec 32 := Scalar.addi c0_i32_80 c128_i32_81
  let c1_i32_82 : BitVec 32 := 1#32
  ⟨c0_i32_80, v96, c1_i32_82⟩
def k0_off26 (k0_t5 : Fin k0_t5_loop.trips) : Fin 1 → Nat :=
  let c0_i32_88 : BitVec 32 := 0#32
  let c0_i32_80 : BitVec 32 := 0#32
  let c1_i32_82 : BitVec 32 := 1#32
  let arg23 : BitVec 32 := Scf.iv c0_i32_80 c1_i32_82 k0_t5
  let c1_i32_87 : BitVec 32 := 1#32
  let v101 : BitVec 32 := Scalar.muli arg23 c1_i32_87
  let v102 : BitVec 32 := Scalar.addi c0_i32_88 v101
  let c16_i32 : BitVec 32 := 16#32
  let v103 : BitVec 32 := Scalar.muli v102 c16_i32
  let v104 : Index := Scalar.indexCast v103
  ![v104.toNat]

def k0_chk13 (v105 : IVec S16 32) (v107 : IVec S16 32) : Prop :=
  (∀ a x, ((![v107, v105] : Fin 2 → IVec S16 32) a x).toNat < S4x2048.size a)
theorem k0_idx13_inb : ∀ (v105 : IVec S16 32) (v107 : IVec S16 32) (k0_hw13 : k0_chk13 v105 v107), ∀ a x, ((![v107, v105] : Fin 2 → IVec S16 32) a x).toNat < S4x2048.size a := fun v105 v107 k0_hw13 => k0_hw13

def k0_chk14 (v105 : IVec S16 32) (v109 : IVec S16 32) : Prop :=
  (∀ a x, ((![v109, v105] : Fin 2 → IVec S16 32) a x).toNat < S4x2048.size a)
theorem k0_idx14_inb : ∀ (v105 : IVec S16 32) (v109 : IVec S16 32) (k0_hw14 : k0_chk14 v105 v109), ∀ a x, ((![v109, v105] : Fin 2 → IVec S16 32) a x).toNat < S4x2048.size a := fun v105 v109 k0_hw14 => k0_hw14

def k0_chk15 (v105 : IVec S16 32) (v111 : IVec S16 32) : Prop :=
  (∀ a x, ((![v111, v105] : Fin 2 → IVec S16 32) a x).toNat < S4x2048.size a)
theorem k0_idx15_inb : ∀ (v105 : IVec S16 32) (v111 : IVec S16 32) (k0_hw15 : k0_chk15 v105 v111), ∀ a x, ((![v111, v105] : Fin 2 → IVec S16 32) a x).toNat < S4x2048.size a := fun v105 v111 k0_hw15 => k0_hw15

def k0_chk16 (v105 : IVec S16 32) (v113 : IVec S16 32) : Prop :=
  (∀ a x, ((![v113, v105] : Fin 2 → IVec S16 32) a x).toNat < S4x2048.size a)
theorem k0_idx16_inb : ∀ (v105 : IVec S16 32) (v113 : IVec S16 32) (k0_hw16 : k0_chk16 v105 v113), ∀ a x, ((![v113, v105] : Fin 2 → IVec S16 32) a x).toNat < S4x2048.size a := fun v105 v113 k0_hw16 => k0_hw16
def k0_off27 (k0_t5 : Fin k0_t5_loop.trips) : Fin 2 → Nat :=
  let c0_i32_94 : BitVec 32 := 0#32
  let v115 : Index := Scalar.indexCast c0_i32_94
  let c0_i32_88 : BitVec 32 := 0#32
  let c0_i32_80 : BitVec 32 := 0#32
  let c1_i32_82 : BitVec 32 := 1#32
  let arg23 : BitVec 32 := Scf.iv c0_i32_80 c1_i32_82 k0_t5
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v116 : Index := Scalar.indexCast v106
  ![0, v116.toNat]
def k0_off28 (k0_t5 : Fin k0_t5_loop.trips) : Fin 2 → Nat :=
  let c1_i32_95 : BitVec 32 := 1#32
  let v118 : Index := Scalar.indexCast c1_i32_95
  let c0_i32_88 : BitVec 32 := 0#32
  let c0_i32_80 : BitVec 32 := 0#32
  let c1_i32_82 : BitVec 32 := 1#32
  let arg23 : BitVec 32 := Scf.iv c0_i32_80 c1_i32_82 k0_t5
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v119 : Index := Scalar.indexCast v106
  ![1, v119.toNat]
def k0_off29 (k0_t5 : Fin k0_t5_loop.trips) : Fin 2 → Nat :=
  let c2_i32_96 : BitVec 32 := 2#32
  let v121 : Index := Scalar.indexCast c2_i32_96
  let c0_i32_88 : BitVec 32 := 0#32
  let c0_i32_80 : BitVec 32 := 0#32
  let c1_i32_82 : BitVec 32 := 1#32
  let arg23 : BitVec 32 := Scf.iv c0_i32_80 c1_i32_82 k0_t5
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v122 : Index := Scalar.indexCast v106
  ![2, v122.toNat]
def k0_off30 (k0_t5 : Fin k0_t5_loop.trips) : Fin 2 → Nat :=
  let c3_i32_97 : BitVec 32 := 3#32
  let v124 : Index := Scalar.indexCast c3_i32_97
  let c0_i32_88 : BitVec 32 := 0#32
  let c0_i32_80 : BitVec 32 := 0#32
  let c1_i32_82 : BitVec 32 := 1#32
  let arg23 : BitVec 32 := Scf.iv c0_i32_80 c1_i32_82 k0_t5
  let c1_i32_87 : BitVec 32 := 1#32
  let v101 : BitVec 32 := Scalar.muli arg23 c1_i32_87
  let v102 : BitVec 32 := Scalar.addi c0_i32_88 v101
  let c16_i32_89 : BitVec 32 := 16#32
  let v106 : BitVec 32 := Scalar.muli v102 c16_i32_89
  let v125 : Index := Scalar.indexCast v106
  ![3, v125.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S2048 : Shape := ⟨1, ![2048]⟩
abbrev S_ : Shape := ⟨0, ![]⟩
abbrev S2048x1 : Shape := ⟨2, ![2048, 1]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Names.lean ====
/-
  The names every module of the proof of the column permutation `x[:, permutation]` shares: the printed program as the
  SparseCore launch theorem sees it, the resource algebra, the arrays in HBM, and the value the kernel computes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton
public import proofs.«01_k».proof.Proof.Gen.Pre_in_range

@[expose] public section

noncomputable section

namespace Cert.Proof.Permute

open Cert.KernelIdeal Cert.KernelIdeal.Gen

open Idealize.ShloMosaic
open Idealize.ShloMosaic.ValueIdx (ix1 ix2 eq_ix2)
open Idealize.ShloMosaic.SparseCore.Cfg (HIx)
open Idealize.SL Idealize.SL.RA Idealize.SL.BI
open Idealize.SL.Sem
open Idealize.ShloMosaic.Rounds

variable {F : FTy → Type}

/-! ## The launch -/

/-- The labels under the SparseCore call: the printed program has no grid pipeline of its own. -/
abbrev ΛP : Labels := Pipeline.Sig Λ₀ (Fin 0) fun p => (pcfgs (F := F) p).Adm

/-- The printed SparseCore launch. -/
abbrev K : SparseCore.Cfg τ sig (ΛP (F := F)) 1 := sc (F := F)

/-- The definitions the launch's threads run. -/
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

theorem nSub_zero : (K (F := F)).nSub 0 = 16 := rfl

/-- The launch's own semaphores are distinct and lie outside every task's scope, and no buffer is shared by a core's
    tasks. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## Ghost state: the handshakes' rounds, and the counters of the copies -/

abbrev UH : Type := URounds (GSem nD τ sig) ℕ
abbrev UU : Type := UH × Counters
abbrev EH : Emb UH (MT nD τ sig (HIx 1) (Elt F) ℕ UU ℕ) := embL

/-! ## The arrays in HBM -/

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-- The tile thread of a coordinate pair: `L 0` is the SparseCore, `L 1` the tile on it. -/
abbrev cV (L : grid0.Coords) : Fin τ.nSC := (L 0).castLE hcore0
abbrev jV (L : grid0.Coords) : Fin τ.nSub := (L 1).castLE hsub0
abbrev tileThr (d : Dev nD) (L : grid0.Coords) : Thread nD τ := SparseCore.V d (cV L) (jV L)

/-! ## The value -/

/-- Column `j` of the result is column `col p j` of `x`. (The remainder makes the function total; under the
    precondition `p j < 2048` it changes nothing.) -/
def col (p : IVec S2048 32) (j : Fin 2048) : Fin 2048 := ⟨(p (ix1 j)).toNat % 2048, Nat.mod_lt _ (by decide)⟩

theorem col_val {p : IVec S2048 32} {j : Fin 2048} (h : (p (ix1 j)).toNat < 2048) : (col p j).val = (p (ix1 j)).toNat :=
  Nat.mod_eq_of_lt h

/-- The permuted array: `permuted x p i = x (i 0, p (i 1))`. -/
def permuted (x : Vec F S16384x2048 .f32) (p : IVec S2048 32) : Vec F S16384x2048 .f32 :=
  fun i => x (ix2 (n0 := 16384) (n1 := 2048) (i 0) (col p (i 1)))

/-- The same gather on a chunk of four rows. -/
def permuted4 (x : Vec F S4x2048 .f32) (p : IVec S2048 32) : Vec F S4x2048 .f32 :=
  fun i => x (ix2 (n0 := 4) (n1 := 2048) (i 0) (col p (i 1)))

end Cert.Proof.Permute
-- ==== Proof.Gather.lean ====
/-
  The register gather: one run of the kernel's inner loop fills a four-row output buffer with the columns of a four-row
  input buffer that the index buffer names. Stated once over any input and output buffer; the four loops the kernel
  prints (one per buffer pair) are instances of it.
-/
module

public import proofs.«01_k».proof.Proof.Names

@[expose] public section

noncomputable section

namespace Cert.Proof.Permute

open Cert.KernelIdeal Cert.KernelIdeal.Gen

open Idealize.ShloMosaic
open Idealize.ShloMosaic.ValueIdx (ix1 ix2 eq_ix2 shapeCast_a_1a_apply)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## Values -/

/-- Entry `(y 0, y 1)` of the output buffer is decided once `y 1 < 16 k`, or `y 1 < 16 (k + 1)` and `y 0 < r`: `r` rows
    of the sixteen columns of trip `k` are stored. -/
def Filled (x g : Vec F S4x2048 .f32) (p : IVec S2048 32) (k r : Nat) : Prop :=
  ∀ y : S4x2048.Idx, ((y 1).val < 16 * k ∨ ((y 1).val < 16 * k + 16 ∧ (y 0).val < r)) → g y = permuted4 x p y

theorem Filled.zero (x g : Vec F S4x2048 .f32) (p : IVec S2048 32) : Filled x g p 0 0 := fun y h => by omega

/-- Four rows stored: the trip's columns are all filled. -/
theorem Filled.next {x g : Vec F S4x2048 .f32} {p : IVec S2048 32} {k : Nat} (h : Filled x g p k 4) : Filled x g p (k + 1) 0 :=
  fun y hy => h y (by have h0 : (y 0).val < 4 := (y 0).isLt; omega)

theorem Filled.all {x g : Vec F S4x2048 .f32} {p : IVec S2048 32} (h : Filled x g p 128 0) : g = permuted4 x p :=
  funext fun y => h y (.inl (by have h1 : (y 1).val < 2048 := (y 1).isLt; omega))

/-- The sixteen row numbers and column numbers a gather takes are inside the buffer. -/
theorem chk_of_lt {v : IVec S16 32} (hv : ∀ x, (v x).toNat < 2048) {r : Nat} (hr : r < 4) :
    ∀ a x, ((![broadcast S16 (BitVec.ofNat 32 r), v] : Fin 2 → IVec S16 32) a x).toNat < S4x2048.size a := by
  intro a x
  match a with
  | 0 => show (BitVec.ofNat 32 r).toNat < 4; rw [BitVec.toNat_ofNat]; omega
  | 1 => exact hv x

/-- Storing row `r` of trip `k`: the sixteen words gathered from row `r` of the input at the columns the index buffer
    holds at `16 k ..`. -/
theorem Filled.store {κ : Kind} {sp : Space} (m : Memref sig κ sp S4x2048 .f32) {f : m.view.ty.Contents (Elt F)}
    {x : Vec F S4x2048 .f32} {p : IVec S2048 32} (hp : ∀ j, (p j).toNat < 2048) {k r : Nat} (hk : k < 128)
    (hf : Filled x (m.view.read (Elt F) f) p k r)
    {off : Fin 2 → Nat} (hoff : off = ![r, 16 * k]) (inb : ∀ a, off a + S1x16.size a ≤ S4x2048.size a)
    {v : IVec S16 32} (hv : ∀ (q : Fin 16), v (ix1 q) = p (ix1 (n := 2048) ⟨16 * k + q.val, by omega⟩))
    (hc : ∀ a x, ((![broadcast S16 (BitVec.ofNat 32 r), v] : Fin 2 → IVec S16 32) a x).toNat < S4x2048.size a)
    (hs : S16.ShapeCasts S1x16) :
    Filled x (m.view.read (Elt F) ((m.access (Rect.unit (s := S4x2048) off S1x16.size inb)).write (Elt F) f
      (shapeCast S1x16 (loadIdx x ![broadcast S16 (BitVec.ofNat 32 r), v] hc) hs) Finset.univ)) p k (r + 1) := by
  subst hoff
  intro y hy
  by_cases hin : y ∈ (Rect.unit (s := S4x2048) ![r, 16 * k] S1x16.size inb).set
  · obtain ⟨z, -, rfl⟩ := Finset.mem_map.1 (show y ∈ Finset.univ.map (Rect.unit (s := S4x2048) ![r, 16 * k] S1x16.size inb).emb by
      rw [Rect.map_emb_univ]; exact hin)
    refine (View.read_slice_write_emb (v := m.view) (Rect.unit (s := S4x2048) ![r, 16 * k] S1x16.size inb) f _ (Finset.mem_univ z)).trans ?_
    obtain ⟨u, q, rfl⟩ : ∃ (u : Fin 1) (q : Fin 16), z = ix2 u q := ⟨z 0, z 1, eq_ix2 z⟩
    refine (shapeCast_a_1a_apply (a := 16) _ hs u q).trans ?_
    refine congrArg x (funext fun a => Fin.ext ?_)
    have hu : u.val = 0 := by omega
    have hcol : ((Rect.unit (s := S4x2048) ![r, 16 * k] S1x16.size inb).emb (ix2 u q) 1) = (⟨16 * k + q.val, by omega⟩ : Fin 2048) :=
      Fin.ext (show 16 * k + 1 * q.val = 16 * k + q.val by omega)
    match a with
    | 0 =>
      have hr : r < 4 := by have := inb 0; simp at this; omega
      show (BitVec.ofNat 32 r).toNat = r + 1 * u.val
      rw [BitVec.toNat_ofNat]; omega
    | 1 =>
      show (v (ix1 q)).toNat = (col p ((Rect.unit (s := S4x2048) ![r, 16 * k] S1x16.size inb).emb (ix2 u q) 1)).val
      rw [hcol, hv, col_val (hp _)]
  · refine (View.read_slice_write_of_not_mem (v := m.view) (Rect.unit (s := S4x2048) ![r, 16 * k] S1x16.size inb) f _ _
      (by rw [Rect.map_emb_univ]; exact hin)).trans (hf y ?_)
    rcases hy with hy | ⟨h1, h0⟩
    · exact .inl hy
    · by_contra hcon
      refine hin (Rect.mem_set_unit.2 fun a => ?_)
      match a with
      | 0 => exact ⟨show r ≤ (y 0).val by omega, show (y 0).val < r + 1 by omega⟩
      | 1 => exact ⟨show 16 * k ≤ (y 1).val by omega, show (y 1).val < 16 * k + 16 by omega⟩

/-! ## The inner loop -/

section Loop

variable [FloatOps F]

local notation "𝕄" => MT nD τ sig (HIx 1) (Elt F) ℕ UU ℕ

variable (d : Dev nD) (L : grid0.Coords)
/-- A tile's buffer held outright, reading `x`. -/
def Holds {s : Shape} {e : EltTy} (b : Memref sig .scVector .vmem s e) (x : Vec F s e) : sProp 𝕄 :=
  iprop(∃ f, ⌜b.view.read (Elt F) f = x⌝ ∗ (b.view.loc (tileThr d L) ↦[b.view.set]{fullShare} f))

section Steps

variable {α : Type}

/-- A finished program: its postcondition at the value returned. -/
theorem wp_done {a : α} {Q : α → sProp 𝕄} :
    Q a ⊢ wp frame (wpE (defs₀ (F := F)) 𝒱₀ (tileThr d L) none) Set.univ (.ret a) Q := by
  rw [wp_ret]
  iintro H; imodintro; iexact H

/-- Loading a rectangle of a held buffer continues at what it holds there. -/
theorem wp_load_holds {s : Shape} {e : EltTy} {b : Memref sig .scVector .vmem s e} {x : Vec F s e} {r : Rect s}
    {hl : b.view.LoadsAt r.toLoadRect} {k : (r.shape.Idx → Elt F e) → Prog (TpuEff nD τ sig (Elt F) Λ₀ (tileThr d L).2) α} {Q : α → sProp 𝕄} :
    Holds d L b x ⊢ iprop((Holds d L b x -∗ wp frame (wpE (defs₀ (F := F)) 𝒱₀ (tileThr d L) none) Set.univ (k fun y => x (r.emb y)) Q)
      -∗ wp frame (wpE (defs₀ (F := F)) 𝒱₀ (tileThr d L) none) Set.univ (.op (.load b r.toLoadRect hl) k) Q) := by
  unfold Holds
  iintro ⟨%f, %ef, Hb⟩ HK
  subst ef
  iapply (wp_load_rect (defs := defs₀ (F := F)) 𝒱₀ (tileThr d L) none Set.univ (m := b) (r := r) (f := f) (q := fullShare) (S := b.view.set)
    (View.set_slice_subset (v := b.view) r)) $$ Hb
  iintro Hb
  iapply HK
  iexists f; isplitr [Hb]
  · ipureintro; rfl
  · iexact Hb

/-- A register gather out of a held buffer continues at what it holds at the indices. -/
theorem wp_gather_holds {s t : Shape} {e : EltTy} {b : Memref sig .scVector .vmem s e} {x : Vec F s e} {idxs : Fin s.rank → IVec t 32}
    {h : ∀ a x, (idxs a x).toNat < s.size a} {hl : b.view.Loads} {k : Vec F t e → Prog (TpuEff nD τ sig (Elt F) Λ₀ (tileThr d L).2) α} {Q : α → sProp 𝕄} :
    Holds d L b x ⊢ iprop((Holds d L b x -∗ wp frame (wpE (defs₀ (F := F)) 𝒱₀ (tileThr d L) none) Set.univ (k (loadIdx x idxs h)) Q)
      -∗ wp frame (wpE (defs₀ (F := F)) 𝒱₀ (tileThr d L) none) Set.univ (SparseCore.vectorLoadIdx b idxs h hl >>= k) Q) := by
  have hw : (fun y => x ((Rect.whole s).emb y)) = x := funext fun y => congrArg x (funext fun a => Fin.ext (by simp [Rect.emb_apply]))
  have := wp_load_holds d L (b := b) (x := x) (r := Rect.whole s) (hl := View.loadsAt_whole hl) (Q := Q) (k := fun f => k (loadIdx f idxs h))
  rw [hw] at this
  exact this

/-- The store of one gathered row. -/
theorem wp_store_filled {b : Memref sig .scVector .vmem S4x2048 .f32} {x : Vec F S4x2048 .f32} {p : IVec S2048 32}
    (hp : ∀ j, (p j).toNat < 2048) {n r : Nat} (hn : n < 128) {off : Fin 2 → Nat} (hoff : off = ![r, 16 * n])
    {inb : ∀ a, off a + S1x16.size a ≤ S4x2048.size a} {v : IVec S16 32}
    (hv : ∀ (q : Fin 16), v (ix1 q) = p (ix1 (n := 2048) ⟨16 * n + q.val, by omega⟩))
    {hc : ∀ a x, ((![broadcast S16 (BitVec.ofNat 32 r), v] : Fin 2 → IVec S16 32) a x).toNat < S4x2048.size a}
    {hs : S16.ShapeCasts S1x16} {hx : (b.access (Rect.unit (s := S4x2048) off S1x16.size inb)).Stores Finset.univ}
    {hm : Finset.univ = Finset.univ ∨ ∀ a, (Rect.unit (s := S4x2048) off S1x16.size inb).stride a = 1}
    {k : PUnit → Prog (TpuEff nD τ sig (Elt F) Λ₀ (tileThr d L).2) α} {g : Vec F S4x2048 .f32} (hg : Filled x g p n r) {Q : α → sProp 𝕄} :
    Holds d L b g ⊢ iprop((∀ g', ⌜Filled x g' p n (r + 1)⌝ -∗ Holds d L b g'
        -∗ wp frame (wpE (defs₀ (F := F)) 𝒱₀ (tileThr d L) none) Set.univ (k ⟨⟩) Q)
      -∗ wp frame (wpE (defs₀ (F := F)) 𝒱₀ (tileThr d L) none) Set.univ
          (.op (.store b (Rect.unit (s := S4x2048) off S1x16.size inb)
            (shapeCast S1x16 (loadIdx x ![broadcast S16 (BitVec.ofNat 32 r), v] hc) hs) Finset.univ hx hm) k) Q) := by
  unfold Holds
  iintro ⟨%f, %ef, Hb⟩ HK
  subst ef
  iapply (wp_store (defs := defs₀ (F := F)) 𝒱₀ (tileThr d L) none Set.univ (m := b) (S := b.view.set)
    (r := Rect.unit (s := S4x2048) off S1x16.size inb) (f := f) (View.set_slice_subset (v := b.view) (Rect.unit (s := S4x2048) off S1x16.size inb))) $$ Hb
  iintro Hb
  iapply HK $$ %_ %(Filled.store b hp hn hg hoff inb hv hc hs)
  iexists _; isplitr [Hb]
  · ipureintro; rfl
  · iexact Hb

end Steps

/-- The inner loop's invariant at trip `k`: the index buffer and the input buffer as they were, and the output buffer
    filled in its first `16 k` columns. -/
def GatherInv (iv : Memref sig .scVector .vmem S2048 .i32) (ib ob : Memref sig .scVector .vmem S4x2048 .f32)
    (p : IVec S2048 32) (x : Vec F S4x2048 .f32) (k : Nat) (_ : Unit) : sProp 𝕄 :=
  iprop(Holds d L iv p ∗ Holds d L ib x ∗ ∃ g, ⌜Filled x g p k 0⌝ ∗ Holds d L ob g)

variable (iv : Memref sig .scVector .vmem S2048 .i32) (hiv : iv.IsWhole) (ib ob : Memref sig .scVector .vmem S4x2048 .f32)
  (hib : ib.IsWhole) (hob : ob.IsWhole)

/-- The body of the inner loop as the kernel runs it on the first pair of buffers, at any pair. -/
abbrev gatherBody : Fin k0_t2_loop.trips → Unit → Prog (TpuEff nD τ sig (Elt F) Λ₀ (tileThr d L).2) Unit :=
  k0_t2_body L (Memref.whole main_arg0_scv) (Memref.isWhole_whole _) (Memref.whole main_arg1_scv) (Memref.isWhole_whole _)
    (Memref.whole main_v0_scv) (Memref.isWhole_whole _) iv hiv ib hib ib hib ib hib ib hib ob hob ob hob ob hob ob hob
    cc0_scratch9 cc0_scratch10 cc0_scratch11 cc0_scratch12 cc0_scratch13 cc0_scratch14 cc0_scratch15 cc0_scratch16 cc0_scoped0
    0#32 0#32 0#32 ⟨0, by decide⟩

/-- The inner loop at any pair of buffers. The kernel's four inner loops are this one at its four pairs. -/
def gatherLoop : Prog (TpuEff nD τ sig (Elt F) Λ₀ (tileThr d L).2) Unit :=
  Scf.Loop.for k0_t2_loop k0_t2_ok ⟨⟩ (gatherBody d L iv hiv ib ob hib hob)

/-- One trip: sixteen indices loaded, four rows gathered at them, four rows stored. -/
theorem gather_trip {p : IVec S2048 32} (hp : ∀ j, (p j).toNat < 2048) (x : Vec F S4x2048 .f32) (k : Fin k0_t2_loop.trips) (u : Unit) :
    GatherInv d L iv ib ob p x k.val u
      ⊢ wp frame (wpE (defs₀ (F := F)) 𝒱₀ (tileThr d L) none) Set.univ (gatherBody d L iv hiv ib ob hib hob k u) (GatherInv d L iv ib ob p x (k.val + 1)) := by
  have hk : k.val < 128 := Nat.lt_of_lt_of_le k.isLt k0_t2_abs.2.1
  have hv : ∀ q : Fin 16, (fun y => p ((Rect.unit (s := S2048) (k0_off5 k) S16.size (k0_off5_inb k)).emb y)) (ix1 q)
      = p (ix1 (n := 2048) ⟨16 * k.val + q.val, by omega⟩) := fun q =>
    congrArg p (funext fun a => Fin.ext (by
      match a with
      | 0 =>
        show k0_off5 k 0 + 1 * q.val = 16 * k.val + q.val
        rw [k0_off5_eq k]; show 16 * k.val + 1 * q.val = _; omega))
  unfold GatherInv gatherBody k0_t2_body
  iintro ⟨Hp, Hx, %g, %hg, Ho⟩
  iapply (wp_load_holds d L (b := iv)) $$ Hp; iintro Hp
  iapply (wp_assume (defs := defs₀ (F := F)) 𝒱₀ (tileThr d L) none Set.univ (chk_of_lt (fun _ => hp _) (r := 0) (by omega)))
  iapply (wp_gather_holds d L (b := ib) (hl := View.loads_vmem h_S4x2048)) $$ Hx; iintro Hx
  iapply (wp_assume (defs := defs₀ (F := F)) 𝒱₀ (tileThr d L) none Set.univ (chk_of_lt (fun _ => hp _) (r := 1) (by omega)))
  iapply (wp_gather_holds d L (b := ib) (hl := View.loads_vmem h_S4x2048)) $$ Hx; iintro Hx
  iapply (wp_assume (defs := defs₀ (F := F)) 𝒱₀ (tileThr d L) none Set.univ (chk_of_lt (fun _ => hp _) (r := 2) (by omega)))
  iapply (wp_gather_holds d L (b := ib) (hl := View.loads_vmem h_S4x2048)) $$ Hx; iintro Hx
  iapply (wp_assume (defs := defs₀ (F := F)) 𝒱₀ (tileThr d L) none Set.univ (chk_of_lt (fun _ => hp _) (r := 3) (by omega)))
  iapply (wp_gather_holds d L (b := ib) (hl := View.loads_vmem h_S4x2048)) $$ Hx; iintro Hx
  iapply (wp_load_holds d L (b := ob)) $$ Ho; iintro Ho
  iapply (wp_store_filled d L (b := ob) hp hk (k0_off6_eq k) hv hg) $$ Ho; iintro %g1 %hg1 Ho
  iapply (wp_load_holds d L (b := ob)) $$ Ho; iintro Ho
  iapply (wp_store_filled d L (b := ob) hp hk (k0_off7_eq k) hv hg1) $$ Ho; iintro %g2 %hg2 Ho
  iapply (wp_load_holds d L (b := ob)) $$ Ho; iintro Ho
  iapply (wp_store_filled d L (b := ob) hp hk (k0_off8_eq k) hv hg2) $$ Ho; iintro %g3 %hg3 Ho
  iapply (wp_load_holds d L (b := ob)) $$ Ho; iintro Ho
  iapply (wp_store_filled d L (b := ob) hp hk (k0_off9_eq k) hv hg3) $$ Ho; iintro %g4 %hg4 Ho
  iapply (wp_done d L)
  isplitl [Hp]; · iexact Hp
  isplitl [Hx]; · iexact Hx
  iexists g4; isplitr [Ho]
  · ipureintro; exact hg4.next
  · iexact Ho

/-- The inner loop: the output buffer ends holding the permuted rows of the input buffer. -/
theorem wp_gather {p : IVec S2048 32} (hp : ∀ j, (p j).toNat < 2048) {x : Vec F S4x2048 .f32} {α : Type}
    {kk : Unit → Prog (TpuEff nD τ sig (Elt F) Λ₀ (tileThr d L).2) α} {Q : α → sProp 𝕄} :
    iprop(Holds d L iv p ∗ Holds d L ib x ∗ ∃ g, Holds d L ob g)
      ⊢ iprop((Holds d L iv p -∗ Holds d L ib x -∗ Holds d L ob (permuted4 x p)
          -∗ wp frame (wpE (defs₀ (F := F)) 𝒱₀ (tileThr d L) none) Set.univ (kk ⟨⟩) Q)
        -∗ wp frame (wpE (defs₀ (F := F)) 𝒱₀ (tileThr d L) none) Set.univ (gatherLoop d L iv hiv ib ob hib hob >>= kk) Q) := by
  have h := Scf.wp_for_bind frame (wpE (defs₀ (F := F)) 𝒱₀ (tileThr d L) none) Set.univ k0_t2_loop.lb k0_t2_loop.ub k0_t2_loop.st
    k0_t2_ok ⟨⟩ (gatherBody d L iv hiv ib ob hib hob) (GatherInv d L iv ib ob p x)
    (fun k u => gather_trip d L iv hiv ib ob hib hob hp x k u) (kk := kk) (Q := Q)
  unfold gatherLoop
  iintro ⟨Hp, Hx, %g, Ho⟩ HK
  iapply h $$ [Hp Hx Ho]
  · unfold GatherInv
    isplitl [Hp]; · iexact Hp
    isplitl [Hx]; · iexact Hx
    iexists g; isplitr [Ho]
    · ipureintro; exact Filled.zero x g p
    · iexact Ho
  unfold GatherInv
  iintro %u ⟨Hp, Hx, %g', %hg', Ho⟩
  have e : g' = permuted4 x p := hg'.all
  subst e
  iapply HK $$ Hp Hx Ho

end Loop

end Cert.Proof.Permute
-- ==== Proof.Copies.lean ====
/-
  The copies between HBM and a tile's buffers, as the kernel double-buffers them: what a slot of the input ring and a
  slot of the output ring hold while idle and while a copy is in flight, and one theorem for each of the four operations
  (issue a fetch, wait for it, issue a write-back, wait for it), for any slot and any chunk of four rows.
-/
module

public import proofs.«01_k».proof.Proof.Gather

@[expose] public section

noncomputable section

namespace Cert.Proof.Permute

open Cert.KernelIdeal Cert.KernelIdeal.Gen

open Idealize.ShloMosaic
open Idealize.ShloMosaic.ValueIdx (ix1 ix2 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## Chunks of four rows -/

/-- The rows from `a` up to `b`, whole. -/
def rows (a b : Nat) : Finset S16384x2048.Idx := Finset.univ.filter fun i => a ≤ (i 0).val ∧ (i 0).val < b

theorem mem_rows {a b : Nat} {i : S16384x2048.Idx} : i ∈ rows a b ↔ a ≤ (i 0).val ∧ (i 0).val < b := by simp [rows]

theorem rows_union {a b c : Nat} (hab : a ≤ b) (hbc : b ≤ c) : rows a b ∪ rows b c = rows a c := by
  ext i; simp only [Finset.mem_union, mem_rows]; omega

theorem rows_disjoint {a b c e : Nat} (hbc : b ≤ c) : Disjoint (rows a b) (rows c e) :=
  Finset.disjoint_left.2 fun i h h' => by rw [mem_rows] at h h'; omega

theorem rows_self (a : Nat) : rows a a = ∅ := by
  ext i; rw [mem_rows]; simp

/-- Rows `n` to `n + 3` of an array, as a chunk. (The remainder makes the function total; every chunk the kernel
    copies lies inside the array.) -/
def chunk (x : Vec F S16384x2048 .f32) (n : Nat) : Vec F S4x2048 .f32 :=
  fun y => x (ix2 (n0 := 16384) (n1 := 2048) ⟨(n + (y 0).val) % 16384, Nat.mod_lt _ (by decide)⟩ (y 1))

/-- The rectangle of a chunk. -/
abbrev slab (off : Fin 2 → Nat) (inb : ∀ a, off a + S4x2048.size a ≤ S16384x2048.size a) : Rect S16384x2048 :=
  Rect.unit (s := S16384x2048) off S4x2048.size inb

theorem slab_set {n : Nat} {off : Fin 2 → Nat} (hoff : off = ![n, 0]) (inb : ∀ a, off a + S4x2048.size a ≤ S16384x2048.size a) :
    (slab off inb).set = rows n (n + 4) := by
  subst hoff
  ext i
  rw [Rect.mem_set_unit, mem_rows]
  constructor
  · intro h; exact h 0
  · intro h a
    match a with
    | 0 => exact h
    | 1 => exact ⟨Nat.zero_le _, show (i 1).val < 0 + 2048 by have h1 : (i 1).val < 2048 := (i 1).isLt; omega⟩

theorem slab_emb {n : Nat} {off : Fin 2 → Nat} (hoff : off = ![n, 0]) (inb : ∀ a, off a + S4x2048.size a ≤ S16384x2048.size a)
    (y : S4x2048.Idx) : (slab off inb).emb y = ix2 (n0 := 16384) (n1 := 2048) ⟨(n + (y 0).val) % 16384, Nat.mod_lt _ (by decide)⟩ (y 1) := by
  subst hoff
  have hn : n + 4 ≤ 16384 := inb 0
  have h0 : (y 0).val < 4 := (y 0).isLt
  refine funext fun a => Fin.ext ?_
  match a with
  | 0 => show n + 1 * (y 0).val = (n + (y 0).val) % 16384; omega
  | 1 => show 0 + 1 * (y 1).val = (y 1).val; omega

/-- Permuting a chunk's columns is the chunk of the permuted array. -/
theorem permuted4_chunk (x : Vec F S16384x2048 .f32) (p : IVec S2048 32) (n : Nat) :
    permuted4 (chunk x n) p = chunk (permuted x p) n := rfl

section Copies

variable [FloatOps F]

local notation "𝕄" => MT nD τ sig (HIx 1) (Elt F) ℕ UU ℕ
local notation "xV" => (Memref.whole main_arg0_scv : Memref sig Kind.scVector Space.hbm S16384x2048 EltTy.f32)
local notation "pV" => (Memref.whole main_arg1_scv : Memref sig Kind.scVector Space.hbm S2048 EltTy.i32)
local notation "oV" => (Memref.whole main_v0_scv : Memref sig Kind.scVector Space.hbm S16384x2048 EltTy.f32)

variable (d : Dev nD) (L : grid0.Coords)

/-- What the tile owes throughout (its launch's debts `O`), with the evidence that it may wait on its own copies, and
    with the waits made so far, each either in `W` or on a copy. -/
def Owed (O : CellTallies nD τ sig (HIx 1)) (W : Waits sig (HIx 1)) : sProp 𝕄 :=
  iprop(Transfers.MayWaits (tileThr d L) (default : HIx 1) O ∗ ∃ W', ⌜∀ p ∈ W', p ∈ W ∨ p.2 = none⌝ ∗ owes (tileThr d L) O W')

/-- One more wait on a copy. -/
theorem waits_insert {W W' : Waits sig (HIx 1)} {sl : SemLoc sig} (h : ∀ p ∈ W', p ∈ W ∨ p.2 = none) :
    ∀ p ∈ insert (sl, (default : HIx 1)) W', p ∈ W ∨ p.2 = none := fun p hp => by
  rcases Finset.mem_insert.1 hp with rfl | hp
  · exact .inr rfl
  · exact h p hp

/-- Elements `I` of `x`, for reading. -/
def XPts (x : Vec F S16384x2048 .f32) (q : PosShare TreeShare) (I : Finset S16384x2048.Idx) : sProp 𝕄 :=
  iprop((xV).view.loc (tileThr d L) ↦[I]{q} x)

/-- Rows `a` to `b` of the result, outright. -/
def OPts (o : Vec F S16384x2048 .f32) (a b : Nat) : sProp 𝕄 :=
  iprop((oV).view.loc (tileThr d L) ↦[rows a b]{fullShare} o)

theorem OPts_split (o : Vec F S16384x2048 .f32) {a b c : Nat} (hab : a ≤ b) (hbc : b ≤ c) :
    OPts d L o a c ⊣⊢ iprop(OPts d L o a b ∗ OPts d L o b c) := by
  unfold OPts
  rw [← rows_union hab hbc]
  exact pointsTo_union (rows_disjoint le_rfl)

/-- What a wait on a write-back counts. -/
abbrev outCredit : Nat := ((oV).slice (slab ![0, 0] (by decide)) (fun _ => rfl)).view.dmaCredit

/-- An input slot with no copy in flight. -/
def InIdle (x : Vec F S16384x2048 .f32) (q : PosShare TreeShare) (ib : Memref sig .scVector .vmem S4x2048 .f32) (sm : DmaSem sig) : sProp 𝕄 :=
  iprop((∃ g, Holds d L ib g) ∗ XPts d L x q Finset.univ ∗ semVal (tileThr d L, SemLoc.dma sm) 0)

/-- An input slot with the fetch of the chunk at row `n` in flight: the wait will deliver the buffer holding the chunk. -/
def InFly (x : Vec F S16384x2048 .f32) (q : PosShare TreeShare) (ib : Memref sig .scVector .vmem S4x2048 .f32) (sm : DmaSem sig) (n : Nat) : sProp 𝕄 :=
  iprop(∃ I, Transfers.Flight countersEmb (tileThr d L) (SemLoc.dma sm) (default : HIx 1) ib.view.dmaCredit
      iprop(Holds d L ib (chunk x n) ∗ XPts d L x q I) ∗ XPts d L x q (Finset.univ \ I))

/-- An output slot with no copy in flight. -/
def OutIdle (ob : Memref sig .scVector .vmem S4x2048 .f32) (sm : DmaSem sig) : sProp 𝕄 :=
  iprop((∃ g, Holds (F := F) d L ob g) ∗ semVal (tileThr d L, SemLoc.dma sm) 0)

/-- An output slot with the write-back of the chunk at row `n` in flight: the wait will deliver those rows of the
    result holding `G`. -/
def OutFly (G : Vec F S16384x2048 .f32) (ob : Memref sig .scVector .vmem S4x2048 .f32) (sm : DmaSem sig) (n : Nat) : sProp 𝕄 :=
  Transfers.Flight countersEmb (tileThr d L) (SemLoc.dma sm) (default : HIx 1) outCredit
    iprop((∃ g, Holds d L ob g) ∗ OPts d L G n (n + 4))

variable {α : Type}

/-- A chunk of `x` read through its slice. -/
theorem read_slab (x : Vec F S16384x2048 .f32) {n : Nat} {off : Fin 2 → Nat} (hoff : off = ![n, 0])
    (inb : ∀ a, off a + S4x2048.size a ≤ S16384x2048.size a) (hst : ∀ a, (slab off inb).stride a = 1) :
    ((xV).slice (slab off inb) hst).view.read (Elt F) x = chunk x n :=
  funext fun y => congrArg x (slab_emb hoff inb y)

/-- The rows a write-back's slice names. -/
theorem slab_view_set {n : Nat} {off : Fin 2 → Nat} (hoff : off = ![n, 0])
    (inb : ∀ a, off a + S4x2048.size a ≤ S16384x2048.size a) (hst : ∀ a, (slab off inb).stride a = 1) :
    ((oV).slice (slab off inb) hst).view.set = rows n (n + 4) :=
  (View.set_slice_whole main_v0_scv (slab off inb)).trans (slab_set hoff inb)

/-- Writing a chunk of `G` through its slice leaves those rows holding `G`. -/
theorem write_slab (o G : Vec F S16384x2048 .f32) {n : Nat} {off : Fin 2 → Nat} (hoff : off = ![n, 0])
    (inb : ∀ a, off a + S4x2048.size a ≤ S16384x2048.size a) (hst : ∀ a, (slab off inb).stride a = 1)
    {i : S16384x2048.Idx} (hi : i ∈ rows n (n + 4)) :
    ((oV).slice (slab off inb) hst).view.write (Elt F) o (chunk G n) Finset.univ i = G i := by
  obtain ⟨y, -, rfl⟩ := Finset.mem_map.1 (show i ∈ Finset.univ.map (slab off inb).emb by
    rw [Rect.map_emb_univ, slab_set hoff inb]; exact hi)
  exact (View.write_emb_of_mem (v := ((oV).slice (slab off inb) hst).view) o (chunk G n) (Finset.mem_univ y)).trans
    (congrArg G (slab_emb hoff inb y).symm)

/-- Issuing a fetch. -/
theorem wp_fetch {x : Vec F S16384x2048 .f32} {q : PosShare TreeShare} {ib : Memref sig .scVector .vmem S4x2048 .f32} {sm : DmaSem sig}
    {n : Nat} {off : Fin 2 → Nat} (hoff : off = ![n, 0]) {inb : ∀ a, off a + S4x2048.size a ≤ S16384x2048.size a}
    {hst : ∀ a, (slab off inb).stride a = 1}
    {h1 : ((xV).slice (slab off inb) hst).view.WordExact} {h2 : ib.view.WordExact}
    {h3 : (DmaTarget.here ib : DmaTarget nD τ sig (tileThr d L).2 .vmem S4x2048 .f32).Typed .hbm (SemLoc.dma sm)}
    {k : PUnit → Prog (TpuEff nD τ sig (Elt F) Λ₀ (tileThr d L).2) α} {Q : α → sProp 𝕄} :
    InIdle d L x q ib sm
      ⊢ iprop((InFly d L x q ib sm n -∗ wp frame (wpE (defs₀ (F := F)) 𝒱₀ (tileThr d L) none) Set.univ (k ⟨⟩) Q)
        -∗ wp frame (wpE (defs₀ (F := F)) 𝒱₀ (tileThr d L) none) Set.univ
            (.op (.enqueueDma ((xV).slice (slab off inb) hst) (.here ib) (SemLoc.dma sm) h1 h2 h3) k) Q) := by
  unfold InIdle InFly Holds XPts
  iintro ⟨⟨%g, %f, -, Hb⟩, Hx, Hs⟩ HK
  ihave ⟨Hx, Hxr⟩ := (pointsTo_split_subset (Finset.subset_univ ((xV).slice (slab off inb) hst).view.set)).1 $$ Hx
  iapply (Transfers.wp_dmaLocal countersEmb 𝒱₀ (tileThr d L) none (src := (xV).slice (slab off inb) hst) (dst := ib)
    (sm := SemLoc.dma sm) (default : HIx 1) ib.view.dmaCredit rfl (View.dmaCredit_pos _ (by decide)) (Finset.Subset.refl _)) $$ [Hx Hb Hs]
  · isplitl [Hx]; · iexact Hx
    isplitl [Hb]; · iexact Hb
    iexact Hs
  iintro Hfl
  iapply HK
  iexists ((xV).slice (slab off inb) hst).view.set
  isplitr [Hxr]
  · iapply (Transfers.Flight_mono countersEmb (tileThr d L) ?_) $$ Hfl
    iintro ⟨Hb, Hx⟩
    isplitr [Hx]
    · iexists ib.view.write (Elt F) f (((xV).slice (slab off inb) hst).view.read (Elt F) x) Finset.univ; isplitr [Hb]
      · ipureintro; exact (View.read_write_univ _ _).trans (read_slab x hoff inb hst)
      · iexact Hb
    · iexact Hx
  · iexact Hxr

/-- Waiting for a fetch: the slot's buffer holds the chunk. -/
theorem wp_fetched {x : Vec F S16384x2048 .f32} {q : PosShare TreeShare} {ib : Memref sig .scVector .vmem S4x2048 .f32} {sm : DmaSem sig}
    {n : Nat} {O : CellTallies nD τ sig (HIx 1)} {W : Waits sig (HIx 1)} {s' : Shape} {e' : EltTy} {sp' : Space} {srcw : Memref sig .scVector sp' s' e'}
    {h1 : srcw.view.WordExact} {h2 : ib.view.WordExact}
    {k : PUnit → Prog (TpuEff nD τ sig (Elt F) Λ₀ (tileThr d L).2) α} {Q : α → sProp 𝕄} :
    iprop(InFly d L x q ib sm n ∗ Owed d L O W)
      ⊢ iprop((Holds d L ib (chunk x n) -∗ XPts d L x q Finset.univ -∗ semVal (tileThr d L, SemLoc.dma sm) 0 -∗ Owed d L O W
          -∗ wp frame (wpE (defs₀ (F := F)) 𝒱₀ (tileThr d L) none) Set.univ (k ⟨⟩) Q)
        -∗ wp frame (wpE (defs₀ (F := F)) 𝒱₀ (tileThr d L) none) Set.univ (.op (.waitDma2 sm srcw ib h1 h2) k) Q) := by
  unfold InFly Owed XPts
  iintro ⟨⟨%I, Hfl, Hxr⟩, #Hmw, %W', %hW', HO⟩ HK
  iapply (Transfers.wp_waitLocalO countersEmb 𝒱₀ (tileThr d L) none (default : HIx 1) (rfl : ib.view.dmaCredit = _)) $$ [Hfl HO]
  · isplitl [Hfl]; · iexact Hfl
    isplitl [HO]; · iexact HO
    iapply (Transfers.MayWaits.elim (SemLoc.dma sm)) $$ Hmw
  iintro ⟨⟨Hb, Hx⟩, Hs, HO⟩
  iapply HK $$ Hb [Hx Hxr] Hs [HO]
  · iapply (pointsTo_split_subset (Finset.subset_univ I)).2
    isplitl [Hx]; · iexact Hx
    iexact Hxr
  · isplitr; · iexact Hmw
    iexists insert (SemLoc.dma sm, (default : HIx 1)) W'; isplitr [HO]
    · ipureintro; exact waits_insert hW'
    · iexact HO

/-- Issuing a write-back of a chunk of `G`. -/
theorem wp_send {G o : Vec F S16384x2048 .f32} {ob : Memref sig .scVector .vmem S4x2048 .f32} {sm : DmaSem sig}
    {n hi : Nat} (hn : n + 4 ≤ hi) {off : Fin 2 → Nat} (hoff : off = ![n, 0]) {inb : ∀ a, off a + S4x2048.size a ≤ S16384x2048.size a}
    {hst : ∀ a, (slab off inb).stride a = 1} {h1 : ob.view.WordExact} {h2 : ((oV).slice (slab off inb) hst).view.WordExact}
    {h3 : (DmaTarget.here ((oV).slice (slab off inb) hst) : DmaTarget nD τ sig (tileThr d L).2 .hbm S4x2048 .f32).Typed .vmem (SemLoc.dma sm)}
    {k : PUnit → Prog (TpuEff nD τ sig (Elt F) Λ₀ (tileThr d L).2) α} {Q : α → sProp 𝕄} :
    iprop(Holds d L ob (chunk G n) ∗ semVal (tileThr d L, SemLoc.dma sm) 0 ∗ OPts d L o n hi)
      ⊢ iprop((OutFly d L G ob sm n -∗ OPts d L o (n + 4) hi -∗ wp frame (wpE (defs₀ (F := F)) 𝒱₀ (tileThr d L) none) Set.univ (k ⟨⟩) Q)
        -∗ wp frame (wpE (defs₀ (F := F)) 𝒱₀ (tileThr d L) none) Set.univ
            (.op (.enqueueDma ob (.here ((oV).slice (slab off inb) hst)) (SemLoc.dma sm) h1 h2 h3) k) Q) := by
  iintro ⟨Hb, Hs, Ho⟩ HK
  ihave ⟨Ho, Hor⟩ := (OPts_split d L o (Nat.le_add_right n 4) hn).1 $$ Ho
  unfold Holds OutFly OPts
  icases Hb with ⟨%f, %ef, Hb⟩
  iapply (Transfers.wp_dmaLocal countersEmb 𝒱₀ (tileThr d L) none (src := ob) (dst := (oV).slice (slab off inb) hst)
    (sm := SemLoc.dma sm) (default : HIx 1) outCredit rfl (View.dmaCredit_pos _ (by decide))
    (le_of_eq (slab_view_set hoff inb hst))) $$ [Ho Hb Hs]
  · isplitl [Hb]; · iexact Hb
    isplitl [Ho]; · iexact Ho
    iexact Hs
  iintro Hfl
  iapply HK $$ [Hfl] Hor
  iapply (Transfers.Flight_mono countersEmb (tileThr d L) ?_) $$ Hfl
  iintro ⟨Ho, Hb⟩
  isplitl [Hb]
  · iexists ob.view.read (Elt F) f; unfold Holds; iexists f; isplitr [Hb]
    · ipureintro; rfl
    · iexact Hb
  · iapply (Entails.of_eq (pointsTo_congr fun i hi => ?_)) $$ Ho
    exact (congrArg (fun w => ((oV).slice (slab off inb) hst).view.write (Elt F) o w Finset.univ i) ef).trans (write_slab o G hoff inb hst hi)

/-- Waiting for a write-back: its rows of the result hold `G`, beside those written before. -/
theorem wp_sent {G : Vec F S16384x2048 .f32} {ob : Memref sig .scVector .vmem S4x2048 .f32} {sm : DmaSem sig}
    {lo n : Nat} (hn : lo ≤ n) {O : CellTallies nD τ sig (HIx 1)} {W : Waits sig (HIx 1)}
    {s' : Shape} {e' : EltTy} {sp' : Space} {srcw : Memref sig .scVector sp' s' e'}
    {off : Fin 2 → Nat} {inb : ∀ a, off a + S4x2048.size a ≤ S16384x2048.size a} {hst : ∀ a, (slab off inb).stride a = 1}
    {h1 : srcw.view.WordExact} {h2 : ((oV).slice (slab off inb) hst).view.WordExact}
    {k : PUnit → Prog (TpuEff nD τ sig (Elt F) Λ₀ (tileThr d L).2) α} {Q : α → sProp 𝕄} :
    iprop(OutFly d L G ob sm n ∗ OPts d L G lo n ∗ Owed d L O W)
      ⊢ iprop((OutIdle (F := F) d L ob sm -∗ OPts d L G lo (n + 4) -∗ Owed d L O W
          -∗ wp frame (wpE (defs₀ (F := F)) 𝒱₀ (tileThr d L) none) Set.univ (k ⟨⟩) Q)
        -∗ wp frame (wpE (defs₀ (F := F)) 𝒱₀ (tileThr d L) none) Set.univ
            (.op (.waitDma2 sm srcw ((oV).slice (slab off inb) hst) h1 h2) k) Q) := by
  unfold OutFly Owed OutIdle
  iintro ⟨Hfl, Hod, #Hmw, %W', %hW', HO⟩ HK
  iapply (Transfers.wp_waitLocalO countersEmb 𝒱₀ (tileThr d L) none (default : HIx 1)
    (rfl : ((oV).slice (slab off inb) hst).view.dmaCredit = outCredit)) $$ [Hfl HO]
  · isplitl [Hfl]; · iexact Hfl
    isplitl [HO]; · iexact HO
    iapply (Transfers.MayWaits.elim (SemLoc.dma sm)) $$ Hmw
  iintro ⟨⟨Hb, Ho⟩, Hs, HO⟩
  iapply HK $$ [Hb Hs] [Hod Ho] [HO]
  · isplitl [Hb]; · iexact Hb
    iexact Hs
  · iapply (OPts_split d L G hn (Nat.le_add_right n 4)).2
    isplitl [Hod]; · iexact Hod
    iexact Ho
  · isplitr; · iexact Hmw
    iexists insert (SemLoc.dma sm, (default : HIx 1)) W'; isplitr [HO]
    · ipureintro; exact waits_insert hW'
    · iexact HO

end Copies

end Cert.Proof.Permute
-- ==== Proof.Trip.lean ====
/-
  One trip of the kernel's outer loop: four chunks of four rows, one through each slot of the two rings of buffers.
-/
module

public import proofs.«01_k».proof.Proof.Copies

@[expose] public section

noncomputable section

namespace Cert.Proof.Permute

open Cert.KernelIdeal Cert.KernelIdeal.Gen

open Idealize.ShloMosaic
open Idealize.ShloMosaic.ValueIdx (ix1 ix2 eq_ix2)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The first row of the tile's 512. -/
def base (L : grid0.Coords) : Nat := 1024 * (L 1).val + 512 * (L 0).val

section Trip

variable [FloatOps F]

local notation "𝕄" => MT nD τ sig (HIx 1) (Elt F) ℕ UU ℕ
local notation "xV" => (Memref.whole main_arg0_scv : Memref sig Kind.scVector Space.hbm S16384x2048 EltTy.f32)
local notation "pV" => (Memref.whole main_arg1_scv : Memref sig Kind.scVector Space.hbm S2048 EltTy.i32)
local notation "oV" => (Memref.whole main_v0_scv : Memref sig Kind.scVector Space.hbm S16384x2048 EltTy.f32)

variable (d : Dev nD) (L : grid0.Coords)
/-! ## The two rings' slots, by the chunk they are at -/

/-- An input slot whose next chunk to deliver is chunk `c`: its fetch in flight, unless there is no such chunk. -/
def InSlot (x : Vec F S16384x2048 .f32) (q : PosShare TreeShare) (ib : Memref sig .scVector .vmem S4x2048 .f32) (sm : DmaSem sig) (c : Nat) : sProp 𝕄 :=
  if c < 128 then InFly d L x q ib sm (base L + 4 * c) else InIdle d L x q ib sm

/-- An output slot whose next chunk to write is chunk `c`: the write-back of chunk `c - 4` in flight, unless there is
    no such chunk. -/
def OutSlot (G : Vec F S16384x2048 .f32) (ob : Memref sig .scVector .vmem S4x2048 .f32) (sm : DmaSem sig) (c : Nat) : sProp 𝕄 :=
  if 4 ≤ c then OutFly d L G ob sm (base L + 4 * (c - 4)) else OutIdle (F := F) d L ob sm

variable {α : Type}

/-- The guarded fetch: a slot idle before it is at chunk `c` after it. -/
theorem wp_fetch_if {x : Vec F S16384x2048 .f32} {q : PosShare TreeShare} {ib : Memref sig .scVector .vmem S4x2048 .f32} {sm : DmaSem sig}
    {c : Nat} {P : Prop} {dec : Decidable P} (hP : P ↔ c < 128) {off : Fin 2 → Nat} (hoff : off = ![base L + 4 * c, 0])
    {inb : P → ∀ a, off a + S4x2048.size a ≤ S16384x2048.size a} {hst : ∀ h : P, ∀ a, (slab off (inb h)).stride a = 1}
    {h1 : ∀ h : P, ((xV).slice (slab off (inb h)) (hst h)).view.WordExact} {h2 : P → ib.view.WordExact}
    {h3 : P → (DmaTarget.here ib : DmaTarget nD τ sig (tileThr d L).2 .vmem S4x2048 .f32).Typed .hbm (SemLoc.dma sm)}
    {k : Prog (TpuEff nD τ sig (Elt F) Λ₀ (tileThr d L).2) α} {Q : α → sProp 𝕄} :
    InIdle d L x q ib sm
      ⊢ iprop((InSlot d L x q ib sm c -∗ wp frame (wpE (defs₀ (F := F)) 𝒱₀ (tileThr d L) none) Set.univ k Q)
        -∗ wp frame (wpE (defs₀ (F := F)) 𝒱₀ (tileThr d L) none) Set.univ
            (if h : P then (.op (.enqueueDma ((xV).slice (slab off (inb h)) (hst h)) (.here ib) (SemLoc.dma sm) (h1 h) (h2 h) (h3 h)) fun _ => k)
              else k) Q) := by
  unfold InSlot
  by_cases h : P
  · rw [dif_pos h, if_pos (hP.1 h)]
    exact wp_fetch (F := F) d L hoff (k := fun _ => k)
  · rw [dif_neg h, if_neg (fun hc => h (hP.2 hc))]
    iintro H HK
    iapply HK $$ H

/-- The guarded wait for a write-back: a slot at chunk `c` before it is idle after it, one more chunk's rows written. -/
theorem wp_sent_if {G : Vec F S16384x2048 .f32} {ob : Memref sig .scVector .vmem S4x2048 .f32} {sm : DmaSem sig}
    {c : Nat} {P : Prop} {dec : Decidable P} (hP : P ↔ 4 ≤ c) {O : CellTallies nD τ sig (HIx 1)} {W : Waits sig (HIx 1)}
    {s' : Shape} {e' : EltTy} {sp' : Space} {srcw : P → Memref sig .scVector sp' s' e'}
    {off : Fin 2 → Nat} {inb : P → ∀ a, off a + S4x2048.size a ≤ S16384x2048.size a} {hst : ∀ h : P, ∀ a, (slab off (inb h)).stride a = 1}
    {h1 : ∀ h : P, (srcw h).view.WordExact} {h2 : ∀ h : P, ((oV).slice (slab off (inb h)) (hst h)).view.WordExact}
    {k : Prog (TpuEff nD τ sig (Elt F) Λ₀ (tileThr d L).2) α} {Q : α → sProp 𝕄} :
    iprop(OutSlot d L G ob sm c ∗ OPts d L G (base L) (base L + 4 * (c - 4)) ∗ Owed d L O W)
      ⊢ iprop((OutIdle (F := F) d L ob sm -∗ OPts d L G (base L) (base L + 4 * (c + 1 - 4)) -∗ Owed d L O W
          -∗ wp frame (wpE (defs₀ (F := F)) 𝒱₀ (tileThr d L) none) Set.univ k Q)
        -∗ wp frame (wpE (defs₀ (F := F)) 𝒱₀ (tileThr d L) none) Set.univ
            (if h : P then (.op (.waitDma2 sm (srcw h) ((oV).slice (slab off (inb h)) (hst h)) (h1 h) (h2 h)) fun _ => k) else k) Q) := by
  unfold OutSlot
  by_cases h : P
  · have hc := hP.1 h
    rw [dif_pos h, if_pos hc, show base L + 4 * (c + 1 - 4) = base L + 4 * (c - 4) + 4 by omega]
    exact wp_sent (F := F) d L (Nat.le_add_right _ _) (k := fun _ => k)
  · have hc : ¬ 4 ≤ c := fun hc => h (hP.2 hc)
    rw [dif_neg h, if_neg hc, show c + 1 - 4 = c - 4 by omega]
    iintro ⟨Hs, Ho, HO⟩ HK
    iapply HK $$ Hs Ho HO

/-- The wait for chunk `c` of an input slot. -/
theorem wp_fetched_slot {x : Vec F S16384x2048 .f32} {q : PosShare TreeShare} {ib : Memref sig .scVector .vmem S4x2048 .f32} {sm : DmaSem sig}
    {c : Nat} (hc : c < 128) {O : CellTallies nD τ sig (HIx 1)} {W : Waits sig (HIx 1)} {s' : Shape} {e' : EltTy} {sp' : Space}
    {srcw : Memref sig .scVector sp' s' e'} {h1 : srcw.view.WordExact} {h2 : ib.view.WordExact}
    {k : PUnit → Prog (TpuEff nD τ sig (Elt F) Λ₀ (tileThr d L).2) α} {Q : α → sProp 𝕄} :
    iprop(InSlot d L x q ib sm c ∗ Owed d L O W)
      ⊢ iprop((Holds d L ib (chunk x (base L + 4 * c)) -∗ XPts d L x q Finset.univ -∗ semVal (tileThr d L, SemLoc.dma sm) 0 -∗ Owed d L O W
          -∗ wp frame (wpE (defs₀ (F := F)) 𝒱₀ (tileThr d L) none) Set.univ (k ⟨⟩) Q)
        -∗ wp frame (wpE (defs₀ (F := F)) 𝒱₀ (tileThr d L) none) Set.univ (.op (.waitDma2 sm srcw ib h1 h2) k) Q) := by
  unfold InSlot
  rw [if_pos hc]
  exact wp_fetched d L

/-- Gathering a chunk of `x` into an idle output slot. -/
theorem wp_gather_chunk {iv : Memref sig .scVector .vmem S2048 .i32} (hiv : iv.IsWhole) {ib ob : Memref sig .scVector .vmem S4x2048 .f32}
    (hib : ib.IsWhole) (hob : ob.IsWhole) {x : Vec F S16384x2048 .f32} {p : IVec S2048 32} (hp : ∀ j, (p j).toNat < 2048)
    {sm : DmaSem sig} {n : Nat} {kk : Unit → Prog (TpuEff nD τ sig (Elt F) Λ₀ (tileThr d L).2) α} {Q : α → sProp 𝕄} :
    iprop(Holds d L iv p ∗ Holds d L ib (chunk x n) ∗ OutIdle (F := F) d L ob sm)
      ⊢ iprop((Holds d L iv p -∗ (∃ g, Holds d L ib g) -∗ Holds d L ob (chunk (permuted x p) n) -∗ semVal (tileThr d L, SemLoc.dma sm) 0
          -∗ wp frame (wpE (defs₀ (F := F)) 𝒱₀ (tileThr d L) none) Set.univ (kk ⟨⟩) Q)
        -∗ wp frame (wpE (defs₀ (F := F)) 𝒱₀ (tileThr d L) none) Set.univ (gatherLoop d L iv hiv ib ob hib hob >>= kk) Q) := by
  rw [← permuted4_chunk]
  unfold OutIdle
  iintro ⟨Hp, Hx, Ho, Hs⟩ HK
  iapply (wp_gather d L iv hiv ib ob hib hob hp) $$ [Hp Hx Ho]
  · isplitl [Hp]; · iexact Hp
    isplitl [Hx]; · iexact Hx
    iexact Ho
  iintro Hp Hx Ho
  iapply HK $$ Hp [Hx] Ho Hs
  iexists _; iexact Hx

/-- Issuing the write-back of chunk `c`: the output slot's next chunk is `c + 4`. -/
theorem wp_send_slot {G o : Vec F S16384x2048 .f32} {ob : Memref sig .scVector .vmem S4x2048 .f32} {sm : DmaSem sig}
    {c : Nat} (hc : c < 128) {off : Fin 2 → Nat} (hoff : off = ![base L + 4 * c, 0]) {inb : ∀ a, off a + S4x2048.size a ≤ S16384x2048.size a}
    {hst : ∀ a, (slab off inb).stride a = 1} {h1 : ob.view.WordExact} {h2 : ((oV).slice (slab off inb) hst).view.WordExact}
    {h3 : (DmaTarget.here ((oV).slice (slab off inb) hst) : DmaTarget nD τ sig (tileThr d L).2 .hbm S4x2048 .f32).Typed .vmem (SemLoc.dma sm)}
    {k : PUnit → Prog (TpuEff nD τ sig (Elt F) Λ₀ (tileThr d L).2) α} {Q : α → sProp 𝕄} :
    iprop(Holds d L ob (chunk G (base L + 4 * c)) ∗ semVal (tileThr d L, SemLoc.dma sm) 0 ∗ OPts d L o (base L + 4 * c) (base L + 512))
      ⊢ iprop((OutSlot d L G ob sm (c + 4) -∗ OPts d L o (base L + 4 * (c + 1)) (base L + 512)
          -∗ wp frame (wpE (defs₀ (F := F)) 𝒱₀ (tileThr d L) none) Set.univ (k ⟨⟩) Q)
        -∗ wp frame (wpE (defs₀ (F := F)) 𝒱₀ (tileThr d L) none) Set.univ
            (.op (.enqueueDma ob (.here ((oV).slice (slab off inb) hst)) (SemLoc.dma sm) h1 h2 h3) k) Q) := by
  unfold OutSlot
  rw [if_pos (Nat.le_add_left 4 c), Nat.add_sub_cancel]
  exact wp_send d L (n := base L + 4 * c) (hi := base L + 512) (by omega) hoff

/-! ## The trip -/

variable (arg5 : Memref sig .scVector .vmem S2048 .i32) (harg5 : arg5.IsWhole)
  (arg6 : Memref sig .scVector .vmem S4x2048 .f32) (harg6 : arg6.IsWhole)
  (arg7 : Memref sig .scVector .vmem S4x2048 .f32) (harg7 : arg7.IsWhole)
  (arg8 : Memref sig .scVector .vmem S4x2048 .f32) (harg8 : arg8.IsWhole)
  (arg9 : Memref sig .scVector .vmem S4x2048 .f32) (harg9 : arg9.IsWhole)
  (arg10 : Memref sig .scVector .vmem S4x2048 .f32) (harg10 : arg10.IsWhole)
  (arg11 : Memref sig .scVector .vmem S4x2048 .f32) (harg11 : arg11.IsWhole)
  (arg12 : Memref sig .scVector .vmem S4x2048 .f32) (harg12 : arg12.IsWhole)
  (arg13 : Memref sig .scVector .vmem S4x2048 .f32) (harg13 : arg13.IsWhole)
  (arg14 arg15 arg16 arg17 arg18 arg19 arg20 arg21 v25_r0 : DmaSems sig S_)
  (v2 : BitVec 32)

local notation "trip" => k0_t1_body (F := F) L xV (Memref.isWhole_whole _) pV (Memref.isWhole_whole _) oV (Memref.isWhole_whole _)
  arg5 harg5 arg6 harg6 arg7 harg7 arg8 harg8 arg9 harg9
  arg10 harg10 arg11 harg11 arg12 harg12 arg13 harg13 arg14 arg15 arg16 arg17 arg18 arg19 arg20 arg21 v25_r0 v2

variable (x : Vec F S16384x2048 .f32) (p : IVec S2048 32) (o : Vec F S16384x2048 .f32) (q : Fin 4 → PosShare TreeShare)
  (O : CellTallies nD τ sig (HIx 1)) (W : Waits sig (HIx 1))

/-- The outer loop's invariant before trip `t`: chunks `4 t`, `4 t + 1`, `4 t + 2` being fetched, the write-backs of the
    last four chunks in flight, the rows before those of the result written and the rows from chunk `4 t` on as they
    were at the launch. -/
def TripInv (t : Nat) (_ : Unit) : sProp 𝕄 :=
  iprop(Holds d L arg5 p
    ∗ InSlot d L x (q 0) arg6 arg14.sem (4 * t) ∗ InSlot d L x (q 1) arg7 arg15.sem (4 * t + 1) ∗ InSlot d L x (q 2) arg8 arg16.sem (4 * t + 2)
    ∗ InIdle d L x (q 3) arg9 arg17.sem
    ∗ OutSlot d L (permuted x p) arg10 arg18.sem (4 * t) ∗ OutSlot d L (permuted x p) arg11 arg19.sem (4 * t + 1)
    ∗ OutSlot d L (permuted x p) arg12 arg20.sem (4 * t + 2) ∗ OutSlot d L (permuted x p) arg13 arg21.sem (4 * t + 3)
    ∗ OPts d L (permuted x p) (base L) (base L + 4 * (4 * t - 4)) ∗ OPts d L o (base L + 4 * (4 * t)) (base L + 512)
    ∗ Owed d L O W)

/-- The printed guards of the fetches, as what they say of the chunk. -/
theorem cond_in : ∀ t : Fin k0_t1_loop.trips, (k0_cond1 t = 1#1 ↔ 4 * t.val + 3 < 128) ∧ (k0_cond3 t = 1#1 ↔ 4 * t.val + 4 < 128)
    ∧ (k0_cond5 t = 1#1 ↔ 4 * t.val + 5 < 128) ∧ (k0_cond7 t = 1#1 ↔ 4 * t.val + 6 < 128) := by decide +kernel

/-- The printed guards of the waits for write-backs. -/
theorem cond_out : ∀ t : Fin k0_t1_loop.trips, (k0_cond2 t = 1#1 ↔ 4 ≤ 4 * t.val) ∧ (k0_cond4 t = 1#1 ↔ 4 ≤ 4 * t.val + 1)
    ∧ (k0_cond6 t = 1#1 ↔ 4 ≤ 4 * t.val + 2) ∧ (k0_cond8 t = 1#1 ↔ 4 ≤ 4 * t.val + 3) := by decide +kernel

/-- An offset pair, by its row. -/
theorem off_row {off : Fin 2 → Nat} {a b : Nat} (h : off = ![a, 0]) (e : a = b) : off = ![b, 0] := e ▸ h

set_option maxHeartbeats 4000000 in
/-- One trip of the outer loop takes the invariant at `t` to the invariant at `t + 1`. -/
theorem trip_spec (hp : ∀ j, (p j).toNat < 2048) (t : Fin k0_t1_loop.trips) (u : Unit) :
    TripInv d L arg5 arg6 arg7 arg8 arg9 arg10 arg11 arg12 arg13 arg14 arg15 arg16 arg17 arg18 arg19 arg20 arg21 x p o q O W t.val u
      ⊢ wp frame (wpE (defs₀ (F := F)) 𝒱₀ (tileThr d L) none) Set.univ (trip t u)
          (TripInv d L arg5 arg6 arg7 arg8 arg9 arg10 arg11 arg12 arg13 arg14 arg15 arg16 arg17 arg18 arg19 arg20 arg21 x p o q O W (t.val + 1)) := by
  have ht : t.val < 32 := Nat.lt_of_lt_of_le t.isLt k0_t1_abs.2.1
  obtain ⟨hi3, hi4, hi5, hi6⟩ := cond_in t
  obtain ⟨ho0, ho1, ho2, ho3⟩ := cond_out t
  unfold TripInv k0_t1_body
  rw [show 4 * (t.val + 1) = 4 * t.val + 4 by omega]
  rw [k0_part1_eq_skeleton, wp_bind]
  unfold k0_part1_skel
  iintro ⟨Hp, Hi0, Hi1, Hi2, Hi3, Ho0, Ho1, Ho2, Ho3, Hd, Hr, HO⟩
  -- chunk `4 t`, through slot 0
  iapply (wp_fetch_if d L (c := 4 * t.val + 3) hi3 (off_row (k0_off2_eq L t) (by unfold base; omega))) $$ Hi3; iintro Hi3
  iapply (wp_fetched_slot d L (c := 4 * t.val) (by omega)) $$ [Hi0 HO]
  · isplitl [Hi0]; · iexact Hi0
    iexact HO
  iintro Hb Hx Hs HO
  iapply (wp_sent_if d L (c := 4 * t.val) ho0) $$ [Ho0 Hd HO]
  · isplitl [Ho0]; · iexact Ho0
    isplitl [Hd]; · iexact Hd
    iexact HO
  iintro Ho0 Hd HO
  iapply (wp_gather_chunk d L harg5 harg6 harg10 hp) $$ [Hp Hb Ho0]
  · isplitl [Hp]; · iexact Hp
    isplitl [Hb]; · iexact Hb
    iexact Ho0
  iintro Hp Hb Ho0 Hs'
  ihave Hi0 : InIdle d L x (q 0) arg6 arg14.sem $$ [Hb Hx Hs]
  · unfold InIdle
    isplitl [Hb]; · iexact Hb
    isplitl [Hx]; · iexact Hx
    iexact Hs
  iapply (wp_send_slot d L (c := 4 * t.val) (by omega) (off_row (k0_off3_eq L t 0) (by unfold base; show _ + 4 * _ = _; omega))) $$ [Ho0 Hs' Hr]
  · isplitl [Ho0]; · iexact Ho0
    isplitl [Hs']; · iexact Hs'
    iexact Hr
  iintro Ho0 Hr
  -- chunk `4 t + 1`, through slot 1
  iapply (wp_fetch_if d L (c := 4 * t.val + 4) hi4 (off_row (k0_off10_eq L t) (by unfold base; omega))) $$ Hi0; iintro Hi0
  iapply (wp_done d L)
  rw [k0_part2_eq_skeleton]
  dsimp -zeta only
  rw [wp_bind]
  unfold k0_part2_skel
  iapply (wp_fetched_slot d L (c := 4 * t.val + 1) (by omega)) $$ [Hi1 HO]
  · isplitl [Hi1]; · iexact Hi1
    iexact HO
  iintro Hb Hx Hs HO
  iapply (wp_sent_if d L (c := 4 * t.val + 1) ho1) $$ [Ho1 Hd HO]
  · isplitl [Ho1]; · iexact Ho1
    isplitl [Hd]; · iexact Hd
    iexact HO
  iintro Ho1 Hd HO
  iapply (wp_gather_chunk d L harg5 harg7 harg11 hp) $$ [Hp Hb Ho1]
  · isplitl [Hp]; · iexact Hp
    isplitl [Hb]; · iexact Hb
    iexact Ho1
  iintro Hp Hb Ho1 Hs'
  ihave Hi1 : InIdle d L x (q 1) arg7 arg15.sem $$ [Hb Hx Hs]
  · unfold InIdle
    isplitl [Hb]; · iexact Hb
    isplitl [Hx]; · iexact Hx
    iexact Hs
  iapply (wp_send_slot d L (c := 4 * t.val + 1) (by omega) (off_row (k0_off3_eq L t 1) (by unfold base; show _ + 4 * _ = _; omega))) $$ [Ho1 Hs' Hr]
  · isplitl [Ho1]; · iexact Ho1
    isplitl [Hs']; · iexact Hs'
    iexact Hr
  iintro Ho1 Hr
  -- chunk `4 t + 2`, through slot 2
  iapply (wp_fetch_if d L (c := 4 * t.val + 5) hi5 (off_row (k0_off17_eq L t) (by unfold base; omega))) $$ Hi1; iintro Hi1
  iapply (wp_fetched_slot d L (c := 4 * t.val + 2) (by omega)) $$ [Hi2 HO]
  · isplitl [Hi2]; · iexact Hi2
    iexact HO
  iintro Hb Hx Hs HO
  iapply (wp_sent_if d L (c := 4 * t.val + 2) ho2) $$ [Ho2 Hd HO]
  · isplitl [Ho2]; · iexact Ho2
    isplitl [Hd]; · iexact Hd
    iexact HO
  iintro Ho2 Hd HO
  iapply (wp_gather_chunk d L harg5 harg8 harg12 hp) $$ [Hp Hb Ho2]
  · isplitl [Hp]; · iexact Hp
    isplitl [Hb]; · iexact Hb
    iexact Ho2
  iintro Hp Hb Ho2 Hs'
  ihave Hi2 : InIdle d L x (q 2) arg8 arg16.sem $$ [Hb Hx Hs]
  · unfold InIdle
    isplitl [Hb]; · iexact Hb
    isplitl [Hx]; · iexact Hx
    iexact Hs
  iapply (wp_done d L)
  iapply (wp_send_slot d L (c := 4 * t.val + 2) (by omega) (off_row (k0_off3_eq L t 2) (by unfold base; show _ + 4 * _ = _; omega))) $$ [Ho2 Hs' Hr]
  · isplitl [Ho2]; · iexact Ho2
    isplitl [Hs']; · iexact Hs'
    iexact Hr
  iintro Ho2 Hr
  -- chunk `4 t + 3`, through slot 3
  iapply (wp_fetch_if d L (c := 4 * t.val + 6) hi6 (off_row (k0_off24_eq L t) (by unfold base; omega))) $$ Hi2; iintro Hi2
  iapply (wp_fetched_slot d L (c := 4 * t.val + 3) (by omega)) $$ [Hi3 HO]
  · isplitl [Hi3]; · iexact Hi3
    iexact HO
  iintro Hb Hx Hs HO
  iapply (wp_sent_if d L (c := 4 * t.val + 3) ho3) $$ [Ho3 Hd HO]
  · isplitl [Ho3]; · iexact Ho3
    isplitl [Hd]; · iexact Hd
    iexact HO
  iintro Ho3 Hd HO
  iapply (wp_gather_chunk d L harg5 harg9 harg13 hp) $$ [Hp Hb Ho3]
  · isplitl [Hp]; · iexact Hp
    isplitl [Hb]; · iexact Hb
    iexact Ho3
  iintro Hp Hb Ho3 Hs'
  ihave Hi3 : InIdle d L x (q 3) arg9 arg17.sem $$ [Hb Hx Hs]
  · unfold InIdle
    isplitl [Hb]; · iexact Hb
    isplitl [Hx]; · iexact Hx
    iexact Hs
  iapply (wp_send_slot d L (c := 4 * t.val + 3) (by omega) (off_row (k0_off3_eq L t 3) (by unfold base; show _ + 4 * _ = _; omega))) $$ [Ho3 Hs' Hr]
  · isplitl [Ho3]; · iexact Ho3
    isplitl [Hs']; · iexact Hs'
    iexact Hr
  iintro Ho3 Hr
  iapply (wp_done d L)
  isplitl [Hp]; · iexact Hp
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hd]; · iexact Hd
  isplitl [Hr]; · iexact Hr
  iexact HO

end Trip

end Cert.Proof.Permute
-- ==== Proof.Tile.lean ====
/-
  A tile's whole run: the indices fetched, the first three chunks' fetches issued, the outer loop, and the last four
  write-backs waited for. Starting from its 512 rows of the result holding anything, it ends with them holding the
  permuted array's.
-/
module

public import proofs.«01_k».proof.Proof.Trip

@[expose] public section

noncomputable section

namespace Cert.Proof.Permute

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

section Tile

variable [FloatOps F]

local notation "𝕄" => MT nD τ sig (HIx 1) (Elt F) ℕ UU ℕ
local notation "xV" => (Memref.whole main_arg0_scv : Memref sig Kind.scVector Space.hbm S16384x2048 EltTy.f32)
local notation "pV" => (Memref.whole main_arg1_scv : Memref sig Kind.scVector Space.hbm S2048 EltTy.i32)
local notation "oV" => (Memref.whole main_v0_scv : Memref sig Kind.scVector Space.hbm S16384x2048 EltTy.f32)

variable (d : Dev nD) (L : grid0.Coords)

/-- The indices, for reading. -/
def IPts (p : IVec S2048 32) (q : PosShare TreeShare) : sProp 𝕄 :=
  iprop((pV).view.loc (tileThr d L) ↦[Finset.univ]{q} p)

variable {α : Type}

/-- Fetching the indices, and waiting for them. -/
theorem wp_indices {p : IVec S2048 32} {q : PosShare TreeShare} {iv : Memref sig .scVector .vmem S2048 .i32} {sm : DmaSem sig}
    {O : CellTallies nD τ sig (HIx 1)} {W : Waits sig (HIx 1)}
    {h1 : (pV).view.WordExact} {h2 : iv.view.WordExact}
    {h3 : (DmaTarget.here iv : DmaTarget nD τ sig (tileThr d L).2 .vmem S2048 .i32).Typed .hbm (SemLoc.dma sm)}
    {h4 : (pV).view.WordExact} {h5 : iv.view.WordExact}
    {k : PUnit → Prog (TpuEff nD τ sig (Elt F) Λ₀ (tileThr d L).2) α} {Q : α → sProp 𝕄} :
    iprop((∃ g, Holds (F := F) d L iv g) ∗ IPts (F := F) d L p q ∗ semVal (tileThr d L, SemLoc.dma sm) 0 ∗ Owed d L O W)
      ⊢ iprop((Holds d L iv p -∗ IPts d L p q -∗ semVal (tileThr d L, SemLoc.dma sm) 0 -∗ Owed d L O W
          -∗ wp frame (wpE (defs₀ (F := F)) 𝒱₀ (tileThr d L) none) Set.univ (k ⟨⟩) Q)
        -∗ wp frame (wpE (defs₀ (F := F)) 𝒱₀ (tileThr d L) none) Set.univ
            (.op (.enqueueDma pV (.here iv) (SemLoc.dma sm) h1 h2 h3) fun _ => .op (.waitDma2 sm pV iv h4 h5) k) Q) := by
  unfold IPts Owed Holds
  iintro ⟨⟨%g, %f, -, Hb⟩, Hp, Hs, #Hmw, %W', %hW', HO⟩ HK
  iapply (Transfers.wp_dmaLocal countersEmb 𝒱₀ (tileThr d L) none (src := pV) (dst := iv)
    (sm := SemLoc.dma sm) (default : HIx 1) iv.view.dmaCredit rfl (View.dmaCredit_pos _ (by decide)) (Finset.Subset.refl _)) $$ [Hp Hb Hs]
  · isplitl [Hp]
    · iapply (Entails.of_eq (congrArg (fun I => iprop((pV).view.loc (tileThr d L) ↦[I]{q} p)) (View.set_whole main_arg1_scv).symm)) $$ Hp
    isplitl [Hb]; · iexact Hb
    iexact Hs
  iintro Hfl
  iapply (Transfers.wp_waitLocalO countersEmb 𝒱₀ (tileThr d L) none (default : HIx 1) (rfl : iv.view.dmaCredit = _)) $$ [Hfl HO]
  · isplitl [Hfl]; · iexact Hfl
    isplitl [HO]; · iexact HO
    iapply (Transfers.MayWaits.elim (SemLoc.dma sm)) $$ Hmw
  iintro ⟨⟨Hb, Hp⟩, Hs, HO⟩
  iapply HK $$ [Hb] [Hp] Hs [HO]
  · iexists iv.view.write (Elt F) f ((pV).view.read (Elt F) p) Finset.univ; isplitr [Hb]
    · ipureintro; exact View.read_write_univ _ _
    · iexact Hb
  · iapply (Entails.of_eq (congrArg (fun I => iprop((pV).view.loc (tileThr d L) ↦[I]{q} p)) (View.set_whole main_arg1_scv))) $$ Hp
  · isplitr; · iexact Hmw
    iexists insert (SemLoc.dma sm, (default : HIx 1)) W'; isplitr [HO]
    · ipureintro; exact waits_insert hW'
    · iexact HO

/-- The rows the first three fetches start at. -/
theorem off_first : ∀ i : grid0.Coords, k0_off1 i 0#32 = ![base i + 4 * 0, 0] ∧ k0_off1 i 4#32 = ![base i + 4 * 1, 0]
    ∧ k0_off1 i 8#32 = ![base i + 4 * 2, 0] := by decide +kernel

theorem trips_eq : k0_t1_loop.trips = 32 := by decide +kernel

/-- Reading `x` on four channels: the four slots' shares of `q`, and what is left of it. -/
theorem XPts_slots (x : Vec F S16384x2048 .f32) (q : PosShare TreeShare) :
    XPts d L x q Finset.univ ⊣⊢ iprop(XPts d L x (Transfers.shareDrop q 4) Finset.univ
      ∗ XPts d L x (Transfers.shareTok q 4 0) Finset.univ ∗ XPts d L x (Transfers.shareTok q 4 1) Finset.univ
      ∗ XPts d L x (Transfers.shareTok q 4 2) Finset.univ ∗ XPts d L x (Transfers.shareTok q 4 3) Finset.univ) := by
  have hs := Transfers.pointsTo_toks (Ix := HIx 1) (Name := ℕ) (U := UU) (Lvl := ℕ) (ℓ := (xV).view.loc (tileThr d L)) (S := Finset.univ) (f := x) q 4
  have e : (Finset.univ : Finset (Fin 4)) = {0, 1, 2, 3} := by decide
  rw [e, SparseCore.bigSep_insert' (by decide), SparseCore.bigSep_insert' (by decide), SparseCore.bigSep_insert' (by decide),
    bigSep_singleton] at hs
  exact hs

variable (arg5 : Memref sig .scVector .vmem S2048 .i32) (harg5 : arg5.IsWhole)
  (arg6 : Memref sig .scVector .vmem S4x2048 .f32) (harg6 : arg6.IsWhole)
  (arg7 : Memref sig .scVector .vmem S4x2048 .f32) (harg7 : arg7.IsWhole)
  (arg8 : Memref sig .scVector .vmem S4x2048 .f32) (harg8 : arg8.IsWhole)
  (arg9 : Memref sig .scVector .vmem S4x2048 .f32) (harg9 : arg9.IsWhole)
  (arg10 : Memref sig .scVector .vmem S4x2048 .f32) (harg10 : arg10.IsWhole)
  (arg11 : Memref sig .scVector .vmem S4x2048 .f32) (harg11 : arg11.IsWhole)
  (arg12 : Memref sig .scVector .vmem S4x2048 .f32) (harg12 : arg12.IsWhole)
  (arg13 : Memref sig .scVector .vmem S4x2048 .f32) (harg13 : arg13.IsWhole)
  (arg14 arg15 arg16 arg17 arg18 arg19 arg20 arg21 v25_r0 : DmaSems sig S_)

/-- The tile's program, over any buffers. -/
local notation "body" => cc0__permute_body (F := F) L xV (Memref.isWhole_whole _) pV (Memref.isWhole_whole _) oV (Memref.isWhole_whole _)
  arg5 harg5 arg6 harg6 arg7 harg7 arg8 harg8 arg9 harg9
  arg10 harg10 arg11 harg11 arg12 harg12 arg13 harg13 arg14 arg15 arg16 arg17 arg18 arg19 arg20 arg21 v25_r0

/-- A tile's buffers and semaphores with no copy in flight, its shares of the two arguments, and its rows of the result
    holding `o`. -/
def Resting (x : Vec F S16384x2048 .f32) (p : IVec S2048 32) (o : Vec F S16384x2048 .f32) (q q' : PosShare TreeShare) : sProp 𝕄 :=
  iprop((XPts d L x q Finset.univ ∗ IPts d L p q' ∗ OPts d L o (base L) (base L + 512))
    ∗ (∃ g, Holds (F := F) d L arg5 g) ∗ (∃ g, Holds (F := F) d L arg6 g) ∗ (∃ g, Holds (F := F) d L arg7 g) ∗ (∃ g, Holds (F := F) d L arg8 g)
    ∗ (∃ g, Holds (F := F) d L arg9 g) ∗ (∃ g, Holds (F := F) d L arg10 g) ∗ (∃ g, Holds (F := F) d L arg11 g) ∗ (∃ g, Holds (F := F) d L arg12 g)
    ∗ (∃ g, Holds (F := F) d L arg13 g)
    ∗ semVal (tileThr d L, SemLoc.dma arg14.sem) 0 ∗ semVal (tileThr d L, SemLoc.dma arg15.sem) 0 ∗ semVal (tileThr d L, SemLoc.dma arg16.sem) 0
    ∗ semVal (tileThr d L, SemLoc.dma arg17.sem) 0 ∗ semVal (tileThr d L, SemLoc.dma arg18.sem) 0 ∗ semVal (tileThr d L, SemLoc.dma arg19.sem) 0
    ∗ semVal (tileThr d L, SemLoc.dma arg20.sem) 0 ∗ semVal (tileThr d L, SemLoc.dma arg21.sem) 0 ∗ semVal (tileThr d L, SemLoc.dma v25_r0.sem) 0)

/-- No rows. -/
theorem OPts_none (o : Vec F S16384x2048 .f32) (a : Nat) : iprop(emp) ⊢ OPts d L o a a := by
  unfold OPts; rw [rows_self, pointsTo_empty]

set_option maxHeartbeats 4000000 in
/-- The tile's run: its rows of the result end holding the permuted array. -/
theorem tile_spec (x : Vec F S16384x2048 .f32) (p : IVec S2048 32) (hp : ∀ j, (p j).toNat < 2048) (o : Vec F S16384x2048 .f32) (q q' : PosShare TreeShare)
    (O : CellTallies nD τ sig (HIx 1)) (W : Waits sig (HIx 1)) :
    iprop(Resting d L arg5 arg6 arg7 arg8 arg9 arg10 arg11 arg12 arg13 arg14 arg15 arg16 arg17 arg18 arg19 arg20 arg21 v25_r0 x p o q q' ∗ Owed d L O W)
      ⊢ wp frame (wpE (defs₀ (F := F)) 𝒱₀ (tileThr d L) none) Set.univ body fun _ =>
        iprop(Resting d L arg5 arg6 arg7 arg8 arg9 arg10 arg11 arg12 arg13 arg14 arg15 arg16 arg17 arg18 arg19 arg20 arg21 v25_r0 x p (permuted x p) q q'
          ∗ Owed d L O W) := by
  obtain ⟨hf0, hf1, hf2⟩ := off_first L
  rw [cc0__permute_body_eq_skeleton]
  unfold cc0__permute_body_skel
  rw [k0_part3_eq_skeleton, wp_bind]
  unfold k0_part3_skel Resting
  iintro ⟨⟨⟨Hx, Hp, Ho⟩, Hb5, Hb6, Hb7, Hb8, Hb9, Hb10, Hb11, Hb12, Hb13, Hs14, Hs15, Hs16, Hs17, Hs18, Hs19, Hs20, Hs21, Hs⟩, HO⟩
  iapply (wp_indices d L) $$ [Hb5 Hp Hs HO]
  · isplitl [Hb5]; · iexact Hb5
    isplitl [Hp]; · iexact Hp
    isplitl [Hs]; · iexact Hs
    iexact HO
  iintro Hb5 Hp Hs HO
  ihave ⟨Hx, Hx0, Hx1, Hx2, Hx3⟩ := (XPts_slots d L x q).1 $$ Hx
  iapply (wp_fetch d L hf0) $$ [Hb6 Hx0 Hs14]
  · unfold InIdle
    isplitl [Hb6]; · iexact Hb6
    isplitl [Hx0]; · iexact Hx0
    iexact Hs14
  iintro Hi0
  iapply (wp_fetch d L hf1) $$ [Hb7 Hx1 Hs15]
  · unfold InIdle
    isplitl [Hb7]; · iexact Hb7
    isplitl [Hx1]; · iexact Hx1
    iexact Hs15
  iintro Hi1
  iapply (wp_fetch d L hf2) $$ [Hb8 Hx2 Hs16]
  · unfold InIdle
    isplitl [Hb8]; · iexact Hb8
    isplitl [Hx2]; · iexact Hx2
    iexact Hs16
  iintro Hi2
  iapply (Scf.wp_for_bind frame (wpE (defs₀ (F := F)) 𝒱₀ (tileThr d L) none) Set.univ k0_t1_loop.lb k0_t1_loop.ub k0_t1_loop.st k0_t1_ok ⟨⟩ _
    (TripInv d L arg5 arg6 arg7 arg8 arg9 arg10 arg11 arg12 arg13 arg14 arg15 arg16 arg17 arg18 arg19 arg20 arg21 x p o (Transfers.shareTok q 4) O W)
    (fun t u => trip_spec d L arg5 harg5 arg6 harg6 arg7 harg7 arg8 harg8 arg9 harg9 arg10 harg10 arg11 harg11 arg12 harg12 arg13 harg13
      arg14 arg15 arg16 arg17 arg18 arg19 arg20 arg21 v25_r0 _ x p o (Transfers.shareTok q 4) O W hp t u)) $$ [Hb5 Hi0 Hi1 Hi2 Hb9 Hx3 Hs17 Hb10 Hs18 Hb11 Hs19 Hb12 Hs20 Hb13 Hs21 Ho HO]
  · unfold TripInv InSlot OutSlot
    rw [if_pos (by decide), if_pos (by decide), if_pos (by decide), if_neg (by decide), if_neg (by decide), if_neg (by decide), if_neg (by decide)]
    unfold InIdle OutIdle
    isplitl [Hb5]; · iexact Hb5
    isplitl [Hi0]; · iexact Hi0
    isplitl [Hi1]; · iexact Hi1
    isplitl [Hi2]; · iexact Hi2
    isplitl [Hb9 Hx3 Hs17]
    · isplitl [Hb9]; · iexact Hb9
      isplitl [Hx3]; · iexact Hx3
      iexact Hs17
    isplitl [Hb10 Hs18]
    · isplitl [Hb10]; · iexact Hb10
      iexact Hs18
    isplitl [Hb11 Hs19]
    · isplitl [Hb11]; · iexact Hb11
      iexact Hs19
    isplitl [Hb12 Hs20]
    · isplitl [Hb12]; · iexact Hb12
      iexact Hs20
    isplitl [Hb13 Hs21]
    · isplitl [Hb13]; · iexact Hb13
      iexact Hs21
    isplitr
    · iapply (OPts_none d L (permuted x p) (base L)); iempintro
    isplitl [Ho]; · iexact Ho
    iexact HO
  iintro %u
  rw [show Scf.trips k0_t1_loop.lb k0_t1_loop.ub k0_t1_loop.st = 32 from trips_eq]
  unfold TripInv InSlot OutSlot
  rw [if_neg (by decide), if_neg (by decide), if_neg (by decide), if_pos (by decide), if_pos (by decide), if_pos (by decide), if_pos (by decide)]
  iintro ⟨Hb5, Hi0, Hi1, Hi2, Hi3, Ho0, Ho1, Ho2, Ho3, Hd, -, HO⟩
  iapply (wp_sent d L (lo := base L) (n := base L + 4 * (4 * 32 - 4)) (by omega)) $$ [Ho0 Hd HO]
  · isplitl [Ho0]; · iexact Ho0
    isplitl [Hd]; · iexact Hd
    iexact HO
  iintro Ho0 Hd HO
  iapply (wp_sent d L (lo := base L) (n := base L + 4 * (4 * 32 + 1 - 4)) (by omega)) $$ [Ho1 Hd HO]
  · isplitl [Ho1]; · iexact Ho1
    isplitl [Hd]; · iexact Hd
    iexact HO
  iintro Ho1 Hd HO
  iapply (wp_sent d L (lo := base L) (n := base L + 4 * (4 * 32 + 2 - 4)) (by omega)) $$ [Ho2 Hd HO]
  · isplitl [Ho2]; · iexact Ho2
    isplitl [Hd]; · iexact Hd
    iexact HO
  iintro Ho2 Hd HO
  iapply (wp_done d L)
  iapply (wp_sent d L (lo := base L) (n := base L + 4 * (4 * 32 + 3 - 4)) (by omega)) $$ [Ho3 Hd HO]
  · isplitl [Ho3]; · iexact Ho3
    isplitl [Hd]; · iexact Hd
    iexact HO
  iintro Ho3 Hd HO
  iapply (wp_done d L)
  unfold InIdle OutIdle
  icases Hi0 with ⟨Hb6, Hx0, Hs14⟩
  icases Hi1 with ⟨Hb7, Hx1, Hs15⟩
  icases Hi2 with ⟨Hb8, Hx2, Hs16⟩
  icases Hi3 with ⟨Hb9, Hx3, Hs17⟩
  icases Ho0 with ⟨Hb10, Hs18⟩
  icases Ho1 with ⟨Hb11, Hs19⟩
  icases Ho2 with ⟨Hb12, Hs20⟩
  icases Ho3 with ⟨Hb13, Hs21⟩
  isplitr [HO]
  · isplitl [Hx Hx0 Hx1 Hx2 Hx3 Hp Hd]
    · isplitl [Hx Hx0 Hx1 Hx2 Hx3]
      · iapply (XPts_slots d L x q).2
        isplitl [Hx]; · iexact Hx
        isplitl [Hx0]; · iexact Hx0
        isplitl [Hx1]; · iexact Hx1
        isplitl [Hx2]; · iexact Hx2
        iexact Hx3
      isplitl [Hp]; · iexact Hp
      iexact Hd
    isplitl [Hb5]; · iexists p; iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    iexact Hs
  iexact HO

end Tile

end Cert.Proof.Permute
-- ==== Proof.Scope.lean ====
/-
  A tile's own buffers and semaphores: the launch hands a tile everything its scope owns, and the kernel's nine scratch
  buffers and nine copy semaphores are among them. With these the tile's run is restated over what the launch gives.
-/
module

public import proofs.«01_k».proof.Proof.Tile

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

section Scope

local notation "𝕄" => MT nD τ sig (HIx 1) (Elt F) ℕ UU ℕ

/-- A product over nine, spelt out. -/
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide]
  iterate 8 rw [SparseCore.bigSep_insert' (by decide)]
  rw [bigSep_singleton]

/-- Nine members of a product, apart from the rest. -/
theorem bigSep_nine_of {I : Type} [DecidableEq I] {s : Finset I} (e : Fin 9 ↪ I) (h : ∀ k, e k ∈ s) (Φ : I → sProp 𝕄) :
    bigSep s Φ = iprop(bigSep Finset.univ (fun k => Φ (e k)) ∗ bigSep (s \ Finset.univ.map e) Φ) := by
  rw [SparseCore.bigSep_sdiff_split' (t := Finset.univ.map e) (fun i hi => by
    obtain ⟨k, -, rfl⟩ := Finset.mem_map.1 hi; exact h k), bigSep_map]

variable (d : Dev nD) (L : grid0.Coords)

/-- The kernel's scratch buffers. -/
def scratch : Fin 9 → Ref sig .scVector :=
  ![cc0_scratch0, cc0_scratch1, cc0_scratch2, cc0_scratch3, cc0_scratch4, cc0_scratch5, cc0_scratch6, cc0_scratch7, cc0_scratch8]

theorem scratch_injective : Function.Injective scratch := by decide

/-- The kernel's copy semaphores: one for each slot of the two rings, and one for the indices. -/
def copySems : Fin 9 → DmaSem sig :=
  ![cc0_scratch9.sem, cc0_scratch10.sem, cc0_scratch11.sem, cc0_scratch12.sem, cc0_scratch13.sem, cc0_scratch14.sem, cc0_scratch15.sem,
    cc0_scratch16.sem, cc0_scoped0.sem]

theorem copySems_injective : Function.Injective copySems := by decide

theorem copySems_scoped : ∀ k, (SemLoc.dma (copySems k) : SemLoc sig).isScoped .scVector = true := by decide

/-- The scratch buffers, as buffers of the device. -/
def scratchOf : Fin 9 ↪ DevRef τ sig :=
  ⟨fun k => (Proc.scVector (cV L) (jV L)).devRef (scratch k), fun _ _ h => scratch_injective (Proc.devRef_injective _ h)⟩

/-- The copy semaphores, as cells of the machine. -/
def copySemsOf : Fin 9 ↪ GSem nD τ sig :=
  ⟨fun k => (tileThr d L, .dma (copySems k)), fun _ _ h => copySems_injective (SemLoc.dma.inj (congrArg Prod.snd h))⟩

variable [FloatOps F]

/-- Holding a whole buffer at some contents, in the two ways of saying it. -/
theorem held_eq {s : Shape} {e : EltTy} (b : Memref sig .scVector .vmem s e) (hb : b.view.set = Finset.univ) :
    (iprop(∃ g, Holds d L b g) : sProp 𝕄) = iprop(∃ f, b.view.loc (tileThr d L) ↦{fullShare} f) := by
  unfold Holds
  rw [hb]
  refine Entails.antisymm ?_ ?_
  · show (_ : sProp 𝕄) ⊢ _
    iintro ⟨%g, %f, -, H⟩
    iexists f; iexact H
  · show (_ : sProp 𝕄) ⊢ _
    iintro ⟨%f, H⟩
    iexists b.view.read (Elt F) f; iexists f; isplitr [H]
    · ipureintro; rfl
    · iexact H

/-- The tile's own buffers: the nine scratch buffers, and the rest. -/
theorem ownBufs_tile : (ownBufs (tileThr d L) : sProp 𝕄)
    = iprop(((∃ g, Holds d L (Memref.whole cc0_scratch0) g) ∗ (∃ g, Holds d L (Memref.whole cc0_scratch1) g)
        ∗ (∃ g, Holds d L (Memref.whole cc0_scratch2) g) ∗ (∃ g, Holds d L (Memref.whole cc0_scratch3) g)
        ∗ (∃ g, Holds d L (Memref.whole cc0_scratch4) g) ∗ (∃ g, Holds d L (Memref.whole cc0_scratch5) g)
        ∗ (∃ g, Holds d L (Memref.whole cc0_scratch6) g) ∗ (∃ g, Holds d L (Memref.whole cc0_scratch7) g)
        ∗ (∃ g, Holds d L (Memref.whole cc0_scratch8) g))
      ∗ bigSep (ownRefs (τ := τ) (.scVector (cV L) (jV L)) \ Finset.univ.map (scratchOf L)) fun b => iprop(∃ f, ((d, b) : Loc nD τ sig) ↦{fullShare} f)) := by
  rw [held_eq d L (Memref.whole cc0_scratch0) (View.set_whole _), held_eq d L (Memref.whole cc0_scratch1) (View.set_whole _),
    held_eq d L (Memref.whole cc0_scratch2) (View.set_whole _), held_eq d L (Memref.whole cc0_scratch3) (View.set_whole _),
    held_eq d L (Memref.whole cc0_scratch4) (View.set_whole _), held_eq d L (Memref.whole cc0_scratch5) (View.set_whole _),
    held_eq d L (Memref.whole cc0_scratch6) (View.set_whole _), held_eq d L (Memref.whole cc0_scratch7) (View.set_whole _),
    held_eq d L (Memref.whole cc0_scratch8) (View.set_whole _)]
  unfold SparseCore.Cfg.ownBufs
  rw [bigSep_nine_of (scratchOf L) (fun k => by
    refine SparseCore.Cfg.mem_ownRefs_of_owner (p := Proc.scVector (cV L) (jV L)) (b := (Proc.scVector (cV L) (jV L)).devRef (scratch k)) ?_
    revert k; exact fun | 0 | 1 | 2 | 3 | 4 | 5 | 6 | 7 | 8 => rfl), bigSep_nine]
  rfl

/-- The tile's own semaphores at zero: the nine copy semaphores, and the rest. -/
theorem ownSems0_tile : (ownSems0 (tileThr d L) : sProp 𝕄)
    = iprop((semVal (tileThr d L, SemLoc.dma cc0_scratch9.sem) 0 ∗ semVal (tileThr d L, SemLoc.dma cc0_scratch10.sem) 0
        ∗ semVal (tileThr d L, SemLoc.dma cc0_scratch11.sem) 0 ∗ semVal (tileThr d L, SemLoc.dma cc0_scratch12.sem) 0
        ∗ semVal (tileThr d L, SemLoc.dma cc0_scratch13.sem) 0 ∗ semVal (tileThr d L, SemLoc.dma cc0_scratch14.sem) 0
        ∗ semVal (tileThr d L, SemLoc.dma cc0_scratch15.sem) 0 ∗ semVal (tileThr d L, SemLoc.dma cc0_scratch16.sem) 0
        ∗ semVal (tileThr d L, SemLoc.dma cc0_scoped0.sem) 0)
      ∗ bigSep (ownCells (tileThr d L) \ Finset.univ.map (copySemsOf d L)) fun g => semVal g 0) := by
  unfold SparseCore.Cfg.ownSems0
  rw [bigSep_nine_of (copySemsOf d L) (fun k => mem_ownCells.mpr ⟨rfl, copySems_scoped k⟩), bigSep_nine]
  rfl

/-! ## The tile's run, over what the launch hands it -/

/-- The tile's share of each argument: one of 32. -/
def tileShare (c : Fin 2) (s : Fin 16) : PosShare TreeShare :=
  Transfers.dealOf fullShare (Finset.univ : Finset (Fin (2 * 16))) (finProdFinEquiv (c, s))

/-- What a tile is handed, and what it hands back: a share of `x` and of the indices, and its 512 rows of the result
    holding `o`. -/
def TileRes (x : Vec F S16384x2048 .f32) (p : IVec S2048 32) (o : Vec F S16384x2048 .f32) : sProp 𝕄 :=
  iprop((xLoc d ↦{tileShare (L 0) (L 1)} x) ∗ (pLoc d ↦{tileShare (L 0) (L 1)} p) ∗ (oLoc d ↦[rows (base L) (base L + 512)]{fullShare} o))

/-- The same, as the tile addresses the arrays. -/
theorem TileRes_eq (x : Vec F S16384x2048 .f32) (p : IVec S2048 32) (o : Vec F S16384x2048 .f32) :
    TileRes d L x p o = iprop(XPts d L x (tileShare (L 0) (L 1)) Finset.univ ∗ IPts d L p (tileShare (L 0) (L 1))
      ∗ OPts d L o (base L) (base L + 512)) := rfl

set_option maxHeartbeats 4000000 in
/-- The body on the tile `(L 0, L 1)` of device `d`: its rows of the result end holding the permuted array, and
    everything else it was handed is back. -/
theorem tile_body (x : Vec F S16384x2048 .f32) (p : IVec S2048 32) (hp : ∀ j, (p j).toNat < 2048) (o : Vec F S16384x2048 .f32)
    (O : CellTallies nD τ sig (HIx 1)) (W : Waits sig (HIx 1)) (hO : ∀ g, O g none = 0) :
    iprop(levAts (K (F := F)).L (K (F := F)).lev ∗ emp ∗ TileRes d L x p o
        ∗ scopedBufs (tileThr d L) ∗ scopedSems0 (tileThr d L) ∗ owes (tileThr d L) O W)
      ⊢ wp frame (wpE (defs₀ (F := F)) 𝒱₀ (tileThr d L) none) Set.univ
          (cc0__permute_body (F := F) L (Memref.whole main_arg0_scv) (Memref.isWhole_whole _) (Memref.whole main_arg1_scv) (Memref.isWhole_whole _)
            (Memref.whole main_v0_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scratch11 cc0_scratch12 cc0_scratch13 cc0_scratch14 cc0_scratch15 cc0_scratch16 cc0_scoped0)
          fun _ => iprop(TileRes d L x p (permuted x p) ∗ scopedBufs (tileThr d L) ∗ scopedSems0 (tileThr d L)
            ∗ ∃ W', ⌜∀ p ∈ W', p ∈ W ∨ p.2 = none⌝ ∗ owes (tileThr d L) O W') := by
  rw [(K (F := F)).scopedBufs_V facts d (cV L) (jV L), SparseCore.Cfg.scopedSems0_V (Val := Elt F) d (cV L) (jV L), ownBufs_tile, ownSems0_tile,
    TileRes_eq, TileRes_eq]
  iintro ⟨#Hlv, -, Hres, ⟨⟨Hb0, Hb1, Hb2, Hb3, Hb4, Hb5, Hb6, Hb7, Hb8⟩, Hbufs⟩, ⟨⟨Hs0, Hs1, Hs2, Hs3, Hs4, Hs5, Hs6, Hs7, Hs8⟩, Hsems⟩, HO⟩
  ihave Hmw := (show levAts (K (F := F)).L (K (F := F)).lev ⊢ Transfers.MayWaits (tileThr d L) (default : HIx 1) O from
    (K (F := F)).mayWaits_none (thr := tileThr d L) hO) $$ Hlv
  ihave Hwp := (tile_spec d L (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _)
    cc0_scratch9 cc0_scratch10 cc0_scratch11 cc0_scratch12 cc0_scratch13 cc0_scratch14 cc0_scratch15 cc0_scratch16 cc0_scoped0
    x p hp o (tileShare (L 0) (L 1)) (tileShare (L 0) (L 1)) O W)
    $$ [Hres Hb0 Hb1 Hb2 Hb3 Hb4 Hb5 Hb6 Hb7 Hb8 Hs0 Hs1 Hs2 Hs3 Hs4 Hs5 Hs6 Hs7 Hs8 HO Hmw]
  · unfold Resting Owed
    isplitr [HO Hmw]
    · isplitl [Hres]; · iexact Hres
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · isplitl [Hmw]; · iexact Hmw
      iexists W; isplitr [HO]
      · ipureintro; exact fun _ h => Or.inl h
      · iexact HO
  iapply (wp_wand frame (wpE (defs₀ (F := F)) 𝒱₀ (tileThr d L) none) Set.univ) $$ Hwp
  iintro %_ ⟨Hr, HO⟩
  unfold Resting Owed
  icases Hr with ⟨Hres, Hb0, Hb1, Hb2, Hb3, Hb4, Hb5, Hb6, Hb7, Hb8, Hs0, Hs1, Hs2, Hs3, Hs4, Hs5, Hs6, Hs7, Hs8⟩
  icases HO with ⟨-, HO⟩
  isplitl [Hres]; · iexact Hres
  isplitl [Hb0 Hb1 Hb2 Hb3 Hb4 Hb5 Hb6 Hb7 Hb8 Hbufs]
  · isplitr [Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      iexact Hb8
    · iexact Hbufs
  isplitl [Hs0 Hs1 Hs2 Hs3 Hs4 Hs5 Hs6 Hs7 Hs8 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · iexact Hsems
  iexact HO

end Scope

end Cert.Proof.Permute
-- ==== Proof.Launch.lean ====
/-
  The kernel's run: what the launch hands each tile and gets back, the two arguments dealt among the 32 tiles and the
  result cut into their rows, and the whole program's run — the arguments kept, the result the permuted array.
-/
module

public import proofs.«01_k».proof.Proof.Scope

@[expose] public section

noncomputable section

namespace Cert.Proof.Permute

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Launch

local notation "𝕄" => MT nD τ sig (HIx 1) (Elt F) ℕ UU ℕ

variable (m : (ℓ : Loc nD τ sig) → Buf (Elt F) ℓ) (ρ : Dev nD → PrngReg)

/-- What the proof asks of the launch memory: every index names a column. -/
def PreOK : Prop := ∀ (d : Dev nD) (j : S2048.Idx), (m (pLoc d) j).toNat < 2048

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What the result is to hold on device `d`. -/
abbrev result (d : Dev nD) : Vec F S16384x2048 .f32 := permuted (m (xLoc d)) (m (pLoc d))

variable [FloatOps F]

/-- What a tile is handed. -/
abbrev tileIn (d : Dev nD) (c : Fin (grid0.bound 0)) (s : Fin (grid0.bound 1)) : sProp 𝕄 :=
  TileRes d (coordsV c s) (m (xLoc d)) (m (pLoc d)) (m (oLoc d))

/-- What a tile hands back. -/
abbrev tileOut (d : Dev nD) (c : Fin (grid0.bound 0)) (s : Fin (grid0.bound 1)) : sProp 𝕄 :=
  TileRes d (coordsV c s) (m (xLoc d)) (m (pLoc d)) (result m d)

/-- The launch's handshakes: a SparseCore is handed what its sixteen tiles are, and hands back what they do. -/
def P : (K (F := F)).Pay (nD := nD) (Val := Elt F) (Name := ℕ) (U := UU) where
  st := fun q d c => match q with | 0 => bigSep Finset.univ fun s => tileIn m d c s
  dn := fun q d c => match q with | 0 => bigSep Finset.univ fun s => tileOut m d c s
  go := fun q d c s => match q with | 0 => tileIn m d c s
  td := fun q d c s => match q with | 0 => tileOut m d c s
  x := fun _ _ => iprop(emp)

instance TileRes_storable (d : Dev nD) (L : grid0.Coords) (x : Vec F S16384x2048 .f32) (p : IVec S2048 32) (o : Vec F S16384x2048 .f32) :
    BI.Storable (upEmb : UEmb _ 𝕄) (TileRes d L x p o) := by unfold TileRes; infer_instance

instance P_storable : (P (F := F) m).IsStorable where
  st q d c := match q with
    | 0 => (inferInstance : BI.Storable (upEmb : UEmb _ 𝕄) (bigSep Finset.univ fun s => tileIn m d c s))
  dn q d c := match q with
    | 0 => (inferInstance : BI.Storable (upEmb : UEmb _ 𝕄) (bigSep Finset.univ fun s => tileOut m d c s))
  go q d c s := match q with | 0 => (inferInstance : BI.Storable (upEmb : UEmb _ 𝕄) (tileIn m d c s))
  td q d c s := match q with | 0 => (inferInstance : BI.Storable (upEmb : UEmb _ 𝕄) (tileOut m d c s))

/-- The printed table's entry for a vector subcore. -/
theorem defs₀_vector (c : Fin τ.nSC) (s : Fin τ.nSub) :
    defs₀ (F := F) (.scVector c s) 0 ()
      = SparseCore.onTile hcore0 hsub0 (fun c s => cc0__permute_body (coordsV c s) (Memref.whole main_arg0_scv) (Memref.isWhole_whole _)
          (Memref.whole main_arg1_scv) (Memref.isWhole_whole _) (Memref.whole main_v0_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _)
          cc0_scratch9 cc0_scratch10 cc0_scratch11 cc0_scratch12 cc0_scratch13 cc0_scratch14 cc0_scratch15 cc0_scratch16 cc0_scoped0)
        ⟨⟩ c s := rfl

omit [FloatOps F] in
/-- Waits only on a tile's own copies are among those a task may make. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr [HO]
  · ipureintro; exact fun p hp => (hW' p hp).imp_right Or.inl
  · iexact HO

set_option maxRecDepth 16384 in
/-- Every tile meets its obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (xLoc d)) (m (pLoc d)) (hpre d) (m (oLoc d)) O W hO).trans
    (wp_mono frame _ _ fun _ => task_post)

/-- A SparseCore's part is its tiles' parts. -/
theorem vecSplit : (K (F := F)).VecSplit' (P m) 0 := by
  intro d c
  show bigSep Finset.univ (fun s => tileIn m d c s) ⊢ |={Set.univ}=> iprop((bigSep Finset.univ fun s => tileIn m d c s)
    ∗ ((bigSep Finset.univ fun s => tileOut m d c s) -∗ bigSep Finset.univ fun s => tileOut m d c s))
  iintro H; imodintro
  isplitl [H]; · iexact H
  iintro H; iexact H

/-! ## The arrays, dealt and cut -/

omit [FloatOps F] in
/-- An array whole is the 32 tiles' shares of it. -/
theorem shares (ℓ : Loc nD τ sig) (f : Buf (Elt F) ℓ) :
    (ℓ ↦{fullShare} f : sProp 𝕄) = bigSep Finset.univ fun c : Fin 2 => bigSep Finset.univ fun s : Fin 16 => ℓ ↦{tileShare c s} f := by
  rw [Transfers.pointsTo_deal (Finset.univ : Finset (Fin (2 * 16))) ⟨0, Finset.mem_univ _⟩ fullShare,
    bigSep_univ_equiv (finProdFinEquiv (m := 2) (n := 16)), bigSep_univ_prod]
  rfl

/-- The rows of tile `s` of SparseCore `c`. -/
def tileRows (cs : Fin 2 × Fin 16) : Finset S16384x2048.Idx := rows (1024 * cs.2.val + 512 * cs.1.val) (1024 * cs.2.val + 512 * cs.1.val + 512)

theorem tileRows_disjoint : ∀ t ∈ (Finset.univ : Finset (Fin 2 × Fin 16)), ∀ t' ∈ (Finset.univ : Finset (Fin 2 × Fin 16)), t ≠ t' →
    Disjoint (tileRows t) (tileRows t') := fun t _ t' _ h => Finset.disjoint_left.2 fun i hi hi' => by
  unfold tileRows at hi hi'
  rw [mem_rows] at hi hi'
  refine h (Prod.ext (Fin.ext ?_) (Fin.ext ?_)) <;> omega

theorem tileRows_cover : (Finset.univ : Finset (Fin 2 × Fin 16)).biUnion tileRows = Finset.univ := by
  refine Finset.eq_univ_of_forall fun i => Finset.mem_biUnion.2 ?_
  have hi : (i 0).val < 16384 := (i 0).isLt
  refine ⟨(⟨(i 0).val / 512 % 2, by omega⟩, ⟨(i 0).val / 1024, by omega⟩), Finset.mem_univ _, ?_⟩
  unfold tileRows
  rw [mem_rows]
  show 1024 * ((i 0).val / 1024) + 512 * ((i 0).val / 512 % 2) ≤ (i 0).val
    ∧ (i 0).val < 1024 * ((i 0).val / 1024) + 512 * ((i 0).val / 512 % 2) + 512
  omega

omit [FloatOps F] in
/-- The result whole is the 32 tiles' rows of it. -/
theorem blocks (d : Dev nD) (f : Vec F S16384x2048 .f32) :
    (oLoc d ↦{fullShare} f : sProp 𝕄)
      = bigSep Finset.univ fun c : Fin 2 => bigSep Finset.univ fun s : Fin 16 => oLoc d ↦[tileRows (c, s)]{fullShare} f := by
  rw [← bigSep_univ_prod (fun cs : Fin 2 × Fin 16 => (oLoc d ↦[tileRows cs]{fullShare} f : sProp 𝕄)),
    ← pointsTo_biUnion (ℓ := oLoc d) Finset.univ tileRows tileRows_disjoint, tileRows_cover]

/-- The three arrays whole are what the tiles are handed, and so for what they hand back. -/
theorem whole_eq (d : Dev nD) (x : Vec F S16384x2048 .f32) (p : IVec S2048 32) (o : Vec F S16384x2048 .f32) :
    (iprop((xLoc d ↦{fullShare} x) ∗ (pLoc d ↦{fullShare} p) ∗ (oLoc d ↦{fullShare} o)) : sProp 𝕄)
      = bigSep Finset.univ fun c : Fin 2 => bigSep Finset.univ fun s : Fin 16 => TileRes d (coordsV c s) x p o := by
  rw [shares (xLoc d), shares (pLoc d), blocks]
  simp only [← bigSep_sep']
  rfl

/-! ## The launch -/

omit [FloatOps F] in
/-- A product of nothing. -/
theorem bigSep_nothing {I : Type} (s : Finset I) : (bigSep s fun _ => (iprop(emp) : sProp 𝕄)) = iprop(emp) := bigSep_emp_const s

/-- The launch element of the ghost state. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave ⟨HH, -⟩ := (ownU_pair (initOf (K (F := F)).hsCells (K (F := F)).hsToks) (1 : Counters)) $$ Hu
  imodintro
  isplitl [HH]; · iexact HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing, bigSep_nothing]
  isplitr <;> iempintro

omit [FloatOps F] in
/-- The TensorCore's arrays. -/
theorem arrays_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The launch takes the three arrays as they are at the start. -/
theorem st_eq (d : Dev nD) : (bigSep Finset.univ fun c : Fin ((K (F := F)).nCore 0) => (P m).st 0 d c)
    = iprop((xLoc d ↦{fullShare} m (xLoc d)) ∗ (pLoc d ↦{fullShare} m (pLoc d)) ∗ oLoc d ↦{fullShare} m (oLoc d)) :=
  (whole_eq d _ _ _).symm

/-- The three arrays at the end: the arguments kept, the result permuted. -/
abbrev FIN (d : Dev nD) : sProp 𝕄 :=
  iprop((xLoc d ↦{fullShare} m (xLoc d)) ∗ (pLoc d ↦{fullShare} m (pLoc d)) ∗ oLoc d ↦{fullShare} result m d)

/-- which is what the launch gives back. -/
theorem dn_eq (d : Dev nD) : (bigSep Finset.univ fun c : Fin ((K (F := F)).nCore 0) => (P m).dn 0 d c) = FIN m d :=
  (whole_eq d _ _ _).symm

/-- The program on a TensorCore: the one launch. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st_eq]; iexact Harr
  iintro ⟨Hst, Hdn⟩
  ihave Hdn := (Entails.of_eq (dn_eq m d)) $$ Hdn
  imodintro
  isplitl [Hst]; · iexact Hst
  isplitl [Hdn]; · iexact Hdn
  isplitl [Hb] <;> iassumption

/-- The arrays' contents once every thread is done. -/
def fq (d : Dev nD) (s' : Phys nD τ sig (Elt F)) : Prop :=
  s'.mem.mem (xLoc d) = m (xLoc d) ∧ s'.mem.mem (pLoc d) = m (pLoc d) ∧ s'.mem.mem (oLoc d) = result m d

/-- Holding an array whole says what memory holds there. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr [HSI]
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hp, Ho⟩, HSI⟩
  ihave ⟨%h1, HSI⟩ := (agree s' (xLoc d) (m (xLoc d))) $$ [HSI Hx]
  · isplitl [HSI] <;> iassumption
  ihave ⟨%h2, HSI⟩ := (agree s' (pLoc d) (m (pLoc d))) $$ [HSI Hp]
  · isplitl [HSI] <;> iassumption
  ihave ⟨%h3, HSI⟩ := (agree s' (oLoc d) (result m d)) $$ [HSI Ho]
  · isplitl [HSI] <;> iassumption
  ipureintro; exact ⟨h1, h2, h3⟩

/-- How a run ends: on every device the arguments kept and the result permuted, and no semaphore left raised. -/
def Ended : PUnit × MemSt nD τ sig (Elt F) → Prop := fun r =>
  (∀ c : Dev nD, r.2.mem (xLoc c) = m (xLoc c) ∧ r.2.mem (pLoc c) = m (pLoc c) ∧ r.2.mem (oLoc c) = result m c) ∧ r.2.sem = fun _ => 0

/-- The program's run, from any memory whose indices name columns. -/
theorem run_main [∀ e, Nonempty (Elt F e)] (hpre : PreOK m) :
    θ_run (Cert.KernelIdeal.defs (F := F)) (Cert.KernelIdeal.threads (F := F)) ⟨m, fun _ => 0, ρ⟩ (Ended m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ended m) (fun _ h hz => ⟨h, hz⟩)

end Launch

end Cert.Proof.Permute
-- ==== Proof.Reference.lean ====
/-
  The reference's side: what the precondition says about the indices, and the reference's result read at one index. The
  reference adds 2048 to a negative index, then takes the columns the indices name, each clamped to the array; with every
  index in range neither changes anything, so its result is the permuted array.
-/
module

public import proofs.«01_k».proof.Proof.Names
public import proofs.«01_k».proof.Proof.Gen.ReferenceIdeal.Run
public import Idealize.ShloMosaic.Lib.ReduceAll
public import Idealize.ShloMosaic.Lib.StableHlo.Predicate

@[expose] public section

noncomputable section

namespace Cert.Proof.Permute

open Idealize.ShloMosaic Idealize.SL.Sem
open Idealize.ShloMosaic.ValueIdx (ix1 ix2 eq_ix2)

variable {F : FTy → Type} [FloatOps F]

/-! ## The precondition -/

/-- A word at least 0 and below 2048, both read signed, is below 2048 read unsigned. -/
theorem toNat_lt_of_signed (v : BitVec 32)
    (h : IntOp.andi (IntOp.cmpi .sge v 0#32) (IntOp.cmpi .slt v 2048#32) = 1#1) : v.toNat < 2048 := by
  have hv := v.isLt
  have both : ∀ a b : BitVec 1, IntOp.andi a b = 1#1 → a = 1#1 ∧ b = 1#1 := by decide
  obtain ⟨h0, h1⟩ := both _ _ h
  simp only [IntOp.cmpi, StableHlo.Predicate.ofBool_eq_one_iff, BitVec.sle, BitVec.slt, decide_eq_true_eq,
    BitVec.toInt_eq_toNat_cond, BitVec.toNat_ofNat] at h0 h1
  omega

/-- Under the precondition every index names a column. -/
theorem index_lt (x : Cert.KernelIdeal.S16384x2048.Idx → Elt F .f32) (p : Cert.KernelIdeal.S2048.Idx → BitVec 32)
    (h : Cert.Pre_in_range.fn (F := F) x p = fun _ => 1#1) (j : Cert.KernelIdeal.S2048.Idx) : (p j).toNat < 2048 := by
  have e := congrFun h (fun a => a.elim0)
  dsimp only [Cert.Pre_in_range.fn] at e
  exact toNat_lt_of_signed _ (Host.reduce_andi_all _ _ _ _ _ e j)

/-! ## The reference's result -/

open Cert.ReferenceIdeal Cert.ReferenceIdeal.Gen

/-- The reference's columns, negative ones counted from the end. -/
abbrev refCols (p : IVec S2048 32) : IVec S2048x1 32 :=
  broadcastInDim S2048x1 ![0] bcast_S2048_S2048x1_0
    (select (cmpi .slt p (broadcastInDim S2048 ![] bcast_S_S2048 (constantI S_ 32 0#32)))
      (addi p (broadcastInDim S2048 ![] bcast_S_S2048 (constantI S_ 32 2048#32))) p)

/-- An index in range is taken as it is. -/
theorem refCols_apply (p : IVec S2048 32) (hp : ∀ j, (p j).toNat < 2048) (j : Fin 2048) :
    refCols p (ix2 j (0 : Fin 1)) = p (ix1 j) := by
  have hj := hp (ix1 j)
  have hs : ∀ v : BitVec 32, v.toNat < 2048 → Scalar.select (IntOp.cmpi .slt v 0#32) (IntOp.addi v 2048#32) v = v := by
    intro v hv
    have hz : IntOp.cmpi .slt v 0#32 ≠ 1#1 := by
      rw [Ne, StableHlo.Predicate.slt_iff_toNat (by omega) (by decide)]
      simp
    exact if_neg hz
  have hb : refCols p (ix2 j (0 : Fin 1)) = Scalar.select (IntOp.cmpi .slt (p (ix1 j)) 0#32) (IntOp.addi (p (ix1 j)) 2048#32) (p (ix1 j)) := by
    have hi : ∀ v : IVec S2048 32, broadcastInDim S2048x1 ![0] bcast_S2048_S2048x1_0 v (ix2 j (0 : Fin 1)) = v (ix1 j) := by
      intro v
      unfold broadcastInDim
      congr 1
      funext a
      match a with
      | ⟨0, _⟩ => rfl
    exact hi _
  rw [hb, hs _ hj]

/-- The reference's dimension numbers: along the columns, one whole column at a time. -/
abbrev takeCols : GatherDims S16384x2048 S2048x1 S16384x2048 := gather_S16384x2048_S2048x1_S16384x2048_0_1_n_n_1_1_163841

/-- The reference's result is the permuted array when every index is in range. -/
theorem reference_apply {α : Type} (x : S16384x2048.Idx → α) (p : IVec S2048 32) (hp : ∀ j, (p j).toNat < 2048)
    (i : S16384x2048.Idx) :
    Host.gather takeCols x (refCols p) i = x (ix2 (n0 := 16384) (n1 := 2048) (i 0) (col p (i 1))) := by
  unfold Host.gather
  congr 1
  have hj := hp (ix1 (i 1))
  have hsi : ∀ c, takeCols.siIdx i c = ix2 (i 1) (0 : Fin 1) := by
    intro c
    funext b
    refine Fin.ext ?_
    match b with
    | ⟨0, _⟩ => rfl
    | ⟨1, _⟩ =>
      have : c.val < 1 := c.isLt
      show c.val = 0
      omega
  have hread : ∀ c, refCols p (takeCols.siIdx i c) = p (ix1 (i 1)) := fun c =>
    (congrArg (refCols p) (hsi c)).trans (refCols_apply p hp (i 1))
  have h0 : takeCols.start i (refCols p) 0 = 0 := by
    unfold GatherDims.start
    rw [dif_neg (show (0 : Fin 2) ∉ takeCols.startIndexMap from (by decide : (0 : Fin 2) ∉ ([1] : List (Fin 2))))]
  have h1 : takeCols.start i (refCols p) 1 = (p (ix1 (i 1))).toNat := by
    unfold GatherDims.start
    rw [dif_pos (show (1 : Fin 2) ∈ takeCols.startIndexMap from List.mem_singleton.mpr rfl), hread,
      StableHlo.Predicate.toInt_eq_toNat_of_lt (by omega)]
    show min ((p (ix1 (i 1))).toNat : ℤ).toNat (2048 - 1) = _
    rw [Int.toNat_natCast]
    omega
  funext a
  refine Fin.ext ?_
  match a with
  | ⟨0, _⟩ =>
    show GatherDims.start _ i (refCols p) 0 + 0 + (i 0).val = (i 0).val
    rw [h0]
    omega
  | ⟨1, _⟩ =>
    show GatherDims.start _ i (refCols p) 1 + 0 + 0 = (col p (i 1)).val
    rw [h1]
    exact (col_val hj).symm

/-- So it is, as a whole. -/
theorem reference_value (x : Vec F S16384x2048 .f32) (p : IVec S2048 32) (hp : ∀ j, (p j).toNat < 2048) :
    Host.gather takeCols x (refCols p) = permuted x p := funext fun i => reference_apply x p hp i

end Cert.Proof.Permute

end
-- ==== Proof.lean ====
/-
  The proof of `Cert.Claim`: the kernel and its idealization run, keep their arguments and leave every counter at zero
  (`run_main`, Proof/Launch.lean, at the two instances); so does the reference; and the idealized kernel's result is the
  reference's, the array `x` with its columns permuted (Proof/Reference.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem
open Cert.Proof.Permute (run_main result index_lt reference_value)

/-- The kernel keeps its arguments and ends quiescent. -/
theorem frame_kernel : Cert.quiescent_Kernel := fun m ρ hpre =>
  (θ_run Cert.Kernel.defs _ _).mono (fun _ h => ⟨fun c => ⟨(h.1 c).1, (h.1 c).2.1⟩, h.2⟩)
    (run_main (F := Bits) m ρ fun d j => index_lt (F := Bits) _ _ (hpre d) j)

/-- So does its idealization. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d j => index_lt (F := Ideal) _ _ (hpre d) j)

/-- The reference keeps its arguments from any memory; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- In particular from one that meets the precondition. -/
theorem frame_reference_pre : Cert.quiescent_ReferenceIdeal_pre_in_range := fun m ρ _ => frame_reference m ρ trivial

/-- The idealized kernel and the reference compute the same array: `x` with its columns permuted. -/
theorem algebraic : Cert.algebraic_KernelIdeal_ReferenceIdeal := by
  intro m ρ m' ρ' hpre hagree
  have hp : ∀ d j, (m (Permute.pLoc d) j).toNat < 2048 := fun d j => index_lt (F := Ideal) _ _ (hpre d) j
  refine ⟨fun c => result m c, (θ_run Cert.KernelIdeal.defs _ _).mono
    (fun _ h c => ⟨(h.1 c).2.2, (h.1 c).1, (h.1 c).2.1⟩) (run_main (F := Ideal) m ρ hp), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact reference_value _ _ (hp c)

theorem claim : Cert.Claim := ⟨Cert.Kernel.Gen.facts, Cert.KernelIdeal.Gen.facts, Cert.ReferenceIdeal.Gen.facts,
  Cert.Pre_in_range.Gen.facts, frame_kernel, frame_ideal, frame_reference, frame_reference_pre, trivial, algebraic⟩

end Cert.Proof

end
